-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S1x2048x1024 : Shape := ⟨3, ![1, 2048, 1024]⟩
abbrev S1024x8 : Shape := ⟨2, ![1024, 8]⟩
abbrev S8x1024x1024 : Shape := ⟨3, ![8, 1024, 1024]⟩
abbrev S8x1024 : Shape := ⟨2, ![8, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1x2048x1024 .f32) (main_arg1 : FVec F S1024x8 .f32) (main_arg2 : FVec F S8x1024x1024 .f32) (main_arg3 : FVec F S8x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S1x2048x1024 : Shape := ⟨3, ![1, 2048, 1024]⟩
abbrev S1024x8 : Shape := ⟨2, ![1024, 8]⟩
abbrev S8x1024x1024 : Shape := ⟨3, ![8, 1024, 1024]⟩
abbrev S8x1024 : Shape := ⟨2, ![8, 1024]⟩
abbrev S2048x1024 : Shape := ⟨2, ![2048, 1024]⟩
abbrev S8x1x1024 : Shape := ⟨3, ![8, 1, 1024]⟩
abbrev S1x1024x1024 : Shape := ⟨3, ![1, 1024, 1024]⟩
abbrev S1x1x1024 : Shape := ⟨3, ![1, 1, 1024]⟩
abbrev S2048x8 : Shape := ⟨2, ![2048, 8]⟩
abbrev S2048 : Shape := ⟨1, ![2048]⟩
abbrev S2048x1 : Shape := ⟨2, ![2048, 1]⟩
abbrev S1024x1024 : Shape := ⟨2, ![1024, 1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8x1024x1024, .f32⟩
  | .hbm, ⟨3, _⟩ => ⟨S8x1024, .f32⟩
  | .hbm, ⟨4, _⟩ => ⟨S2048x1024, .f32⟩
  | .hbm, ⟨5, _⟩ => ⟨S8x1024x1024, .bf16⟩
  | .hbm, ⟨6, _⟩ => ⟨S8x1x1024, .f32⟩
  | .hbm, ⟨7, _⟩ => ⟨S2048x1024, .f32⟩
  | .hbm, ⟨8, _⟩ => ⟨S1x2048x1024, .f32⟩
  | .local _ .vmem, ⟨0, _⟩ => ⟨S2048x1024, .f32⟩
  | .local _ .vmem, ⟨1, _⟩ => ⟨S1024x8, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S2048x1024, .f32⟩
  | .local _ .vmem, ⟨7, _⟩ => ⟨S2048x8, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_12 : BitVec 32 := 0#32
  let v23 : BitVec 1 := Scalar.cmpi .eq arg0 c0_i32_12
  let v24 : BitVec 32 := Scalar.extui v23
  let c0_i32_13 : BitVec 32 := 0#32
  let v25 : BitVec 1 := Scalar.cmpi .ne v24 c0_i32_13
  v25

def k0_cond3 (i : grid0.Coords) : BitVec 1 :=
  let arg0 : BitVec 32 := BitVec.ofNat 32 (i 0).val
  let c0_i32_14 : BitVec 32 := 0#32
  let v26 : BitVec 1 := Scalar.cmpi .sgt arg0 c0_i32_14
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1x2048x1024 : Shape := ⟨3, ![1, 2048, 1024]⟩
abbrev S1024x8 : Shape := ⟨2, ![1024, 8]⟩
abbrev S8x1024x1024 : Shape := ⟨3, ![8, 1024, 1024]⟩
abbrev S8x1024 : Shape := ⟨2, ![8, 1024]⟩
abbrev S1x2048x8 : Shape := ⟨3, ![1, 2048, 8]⟩
abbrev S1x2048x2 : Shape := ⟨3, ![1, 2048, 2]⟩
abbrev S_ : Shape := ⟨0, ![]⟩
abbrev S1x2048 : Shape := ⟨2, ![1, 2048]⟩
abbrev S1x2048x1 : Shape := ⟨3, ![1, 2048, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 255
  | .vmem => 0
  | .smem => 0
  | _ => 0

abbrev hbmTy0_0 (i : Nat) : BufTy := match i % 128 with
  | 0 => ⟨S1x2048x1024, .f32⟩
  | 1 => ⟨S1024x8, .f32⟩
  | 2 => ⟨S8x1024x1024, .f32⟩
  | 3 => ⟨S8x1024, .f32⟩
  | 4 => ⟨S1x2048x8, .f32⟩
  | 5 => ⟨S1x2048x2, .f32⟩
  | 6 => ⟨S1x2048x2, .i32⟩
  | 7 => ⟨S_, .f32⟩
  | 8 => ⟨S1x2048, .f32⟩
  | 9 => ⟨S_, .f32⟩
  | 10 => ⟨S1x2048, .f32⟩
  | 11 => ⟨S1x2048, .f32⟩
  | 12 => ⟨S1x2048x1, .f32⟩
  | 13 => ⟨S1x2048x2, .f32⟩
  | 14 => ⟨S1x2048x2, .f32⟩
  | 15 => ⟨S1x2048x2, .f32⟩
  | 16 => ⟨S_, .f32⟩
  | 17 => ⟨S1x2048, .f32⟩
  | 18 => ⟨S1x2048x1, .f32⟩
  | 19 => ⟨S1x2048x2, .f32⟩
  | 20 => ⟨S1x2048x2, .f32⟩
  | 21 => ⟨S_, .f32⟩
  | 22 => ⟨S1x2048x1024, .f32⟩
  | 23 => ⟨S_, .i32⟩
  | 24 => ⟨S1x2048x2, .i32⟩
  | 25 => ⟨S1x2048x2, .i1⟩
  | 26 => ⟨S_, .f32⟩
  | 27 => ⟨S_, .f32⟩
  | 28 => ⟨S1x2048x2, .f32⟩
  | 29 => ⟨S1x2048x2, .f32⟩
  | 30 => ⟨S_, .f32⟩
  | 31 => ⟨S1x2048, .f32⟩
  | 32 => ⟨S_, .i1⟩
  | 33 => ⟨S1x2048, .i1⟩
  | 34 => ⟨S1x1024x1024, .f32⟩
  | 35 => ⟨S1024x1024, .f32⟩
  | 36 => ⟨S1x2048x1024, .f32⟩
  | 37 => ⟨S1x1024, .f32⟩
  | 38 => ⟨S1024, .f32⟩
  | 39 => ⟨S1x1x1024, .f32⟩
  | 40 => ⟨S1x2048x1024, .f32⟩
  | 41 => ⟨S1x2048x1024, .f32⟩
  | 42 => ⟨S1x2048x1, .f32⟩
  | 43 => ⟨S1x2048x1024, .f32⟩
  | 44 => ⟨S1x2048x1024, .f32⟩
  | 45 => ⟨S1x2048x1, .i1⟩
  | 46 => ⟨S_, .f32⟩
  | 47 => ⟨S_, .f32⟩
  | 48 => ⟨S1x2048x1024, .i1⟩
  | 49 => ⟨S1x2048x1024, .f32⟩
  | 50 => ⟨S1x2048x1024, .f32⟩
  | 51 => ⟨S1x2048x1024, .f32⟩
  | 52 => ⟨S_, .i32⟩
  | 53 => ⟨S1x2048x2, .i32⟩
  | 54 => ⟨S1x2048x2, .i1⟩
  | 55 => ⟨S_, .f32⟩
  | 56 => ⟨S_, .f32⟩
  | 57 => ⟨S1x2048x2, .f32⟩
  | 58 => ⟨S1x2048x2, .f32⟩
  | 59 => ⟨S_, .f32⟩
  | 60 => ⟨S1x2048, .f32⟩
  | 61 => ⟨S_, .i1⟩
  | 62 => ⟨S1x2048, .i1⟩
  | 63 => ⟨S1x1024x1024, .f32⟩
  | 64 => ⟨S1024x1024, .f32⟩
  | 65 => ⟨S1x2048x1024, .f32⟩
  | 66 => ⟨S1x1024, .f32⟩
  | 67 => ⟨S1024, .f32⟩
  | 68 => ⟨S1x1x1024, .f32⟩
  | 69 => ⟨S1x2048x1024, .f32⟩
  | 70 => ⟨S1x2048x1024, .f32⟩
  | 71 => ⟨S1x2048x1, .f32⟩
  | 72 => ⟨S1x2048x1024, .f32⟩
  | 73 => ⟨S1x2048x1024, .f32⟩
  | 74 => ⟨S1x2048x1, .i1⟩
  | 75 => ⟨S_, .f32⟩
  | 76 => ⟨S_, .f32⟩
  | 77 => ⟨S1x2048x1024, .i1⟩
  | 78 => ⟨S1x2048x1024, .f32⟩
  | 79 => ⟨S1x2048x1024, .f32⟩
  | 80 => ⟨S1x2048x1024, .f32⟩
  | 81 => ⟨S_, .i32⟩
  | 82 => ⟨S1x2048x2, .i32⟩
  | 83 => ⟨S1x2048x2, .i1⟩
  | 84 => ⟨S_, .f32⟩
  | 85 => ⟨S_, .f32⟩
  | 86 => ⟨S1x2048x2, .f32⟩
  | 87 => ⟨S1x2048x2, .f32⟩
  | 88 => ⟨S_, .f32⟩
  | 89 => ⟨S1x2048, .f32⟩
  | 90 => ⟨S_, .i1⟩
  | 91 => ⟨S1x2048, .i1⟩
  | 92 => ⟨S1x1024x1024, .f32⟩
  | 93 => ⟨S1024x1024, .f32⟩
  | 94 => ⟨S1x2048x1024, .f32⟩
  | 95 => ⟨S1x1024, .f32⟩
  | 96 => ⟨S1024, .f32⟩
  | 97 => ⟨S1x1x1024, .f32⟩
  | 98 => ⟨S1x2048x1024, .f32⟩
  | 99 => ⟨S1x2048x1024, .f32⟩
  | 100 => ⟨S1x2048x1, .f32⟩
  | 101 => ⟨S1x2048x1024, .f32⟩
  | 102 => ⟨S1x2048x1024, .f32⟩
  | 103 => ⟨S1x2048x1, .i1⟩
  | 104 => ⟨S_, .f32⟩
  | 105 => ⟨S_, .f32⟩
  | 106 => ⟨S1x2048x1024, .i1⟩
  | 107 => ⟨S1x2048x1024, .f32⟩
  | 108 => ⟨S1x2048x1024, .f32⟩
  | 109 => ⟨S1x2048x1024, .f32⟩
  | 110 => ⟨S_, .i32⟩
  | 111 => ⟨S1x2048x2, .i32⟩
  | 112 => ⟨S1x2048x2, .i1⟩
  | 113 => ⟨S_, .f32⟩
  | 114 => ⟨S_, .f32⟩
  | 115 => ⟨S1x2048x2, .f32⟩
  | 116 => ⟨S1x2048x2, .f32⟩
  | 117 => ⟨S_, .f32⟩
  | 118 => ⟨S1x2048, .f32⟩
  | 119 => ⟨S_, .i1⟩
  | 120 => ⟨S1x2048, .i1⟩
  | 121 => ⟨S1x1024x1024, .f32⟩
  | 122 => ⟨S1024x1024, .f32⟩
  | 123 => ⟨S1x2048x1024, .f32⟩
  | 124 => ⟨S1x1024, .f32⟩
  | 125 => ⟨S1024, .f32⟩
  | 126 => ⟨S1x1x1024, .f32⟩
  | 127 => ⟨S1x2048x1024, .f32⟩
  | _ => ⟨S1x2048x1024, .f32⟩

abbrev hbmTy0_1 (i : Nat) : BufTy := match i % 128 with
  | 0 => ⟨S1x2048x1024, .f32⟩
  | 1 => ⟨S1x2048x1, .f32⟩
  | 2 => ⟨S1x2048x1024, .f32⟩
  | 3 => ⟨S1x2048x1024, .f32⟩
  | 4 => ⟨S1x2048x1, .i1⟩
  | 5 => ⟨S_, .f32⟩
  | 6 => ⟨S_, .f32⟩
  | 7 => ⟨S1x2048x1024, .i1⟩
  | 8 => ⟨S1x2048x1024, .f32⟩
  | 9 => ⟨S1x2048x1024, .f32⟩
  | 10 => ⟨S1x2048x1024, .f32⟩
  | 11 => ⟨S_, .i32⟩
  | 12 => ⟨S1x2048x2, .i32⟩
  | 13 => ⟨S1x2048x2, .i1⟩
  | 14 => ⟨S_, .f32⟩
  | 15 => ⟨S_, .f32⟩
  | 16 => ⟨S1x2048x2, .f32⟩
  | 17 => ⟨S1x2048x2, .f32⟩
  | 18 => ⟨S_, .f32⟩
  | 19 => ⟨S1x2048, .f32⟩
  | 20 => ⟨S_, .i1⟩
  | 21 => ⟨S1x2048, .i1⟩
  | 22 => ⟨S1x1024x1024, .f32⟩
  | 23 => ⟨S1024x1024, .f32⟩
  | 24 => ⟨S1x2048x1024, .f32⟩
  | 25 => ⟨S1x1024, .f32⟩
  | 26 => ⟨S1024, .f32⟩
  | 27 => ⟨S1x1x1024, .f32⟩
  | 28 => ⟨S1x2048x1024, .f32⟩
  | 29 => ⟨S1x2048x1024, .f32⟩
  | 30 => ⟨S1x2048x1, .f32⟩
  | 31 => ⟨S1x2048x1024, .f32⟩
  | 32 => ⟨S1x2048x1024, .f32⟩
  | 33 => ⟨S1x2048x1, .i1⟩
  | 34 => ⟨S_, .f32⟩
  | 35 => ⟨S_, .f32⟩
  | 36 => ⟨S1x2048x1024, .i1⟩
  | 37 => ⟨S1x2048x1024, .f32⟩
  | 38 => ⟨S1x2048x1024, .f32⟩
  | 39 => ⟨S1x2048x1024, .f32⟩
  | 40 => ⟨S_, .i32⟩
  | 41 => ⟨S1x2048x2, .i32⟩
  | 42 => ⟨S1x2048x2, .i1⟩
  | 43 => ⟨S_, .f32⟩
  | 44 => ⟨S_, .f32⟩
  | 45 => ⟨S1x2048x2, .f32⟩
  | 46 => ⟨S1x2048x2, .f32⟩
  | 47 => ⟨S_, .f32⟩
  | 48 => ⟨S1x2048, .f32⟩
  | 49 => ⟨S_, .i1⟩
  | 50 => ⟨S1x2048, .i1⟩
  | 51 => ⟨S1x1024x1024, .f32⟩
  | 52 => ⟨S1024x1024, .f32⟩
  | 53 => ⟨S1x2048x1024, .f32⟩
  | 54 => ⟨S1x1024, .f32⟩
  | 55 => ⟨S1024, .f32⟩
  | 56 => ⟨S1x1x1024, .f32⟩
  | 57 => ⟨S1x2048x1024, .f32⟩
  | 58 => ⟨S1x2048x1024, .f32⟩
  | 59 => ⟨S1x2048x1, .f32⟩
  | 60 => ⟨S1x2048x1024, .f32⟩
  | 61 => ⟨S1x2048x1024, .f32⟩
  | 62 => ⟨S1x2048x1, .i1⟩
  | 63 => ⟨S_, .f32⟩
  | 64 => ⟨S_, .f32⟩
  | 65 => ⟨S1x2048x1024, .i1⟩
  | 66 => ⟨S1x2048x1024, .f32⟩
  | 67 => ⟨S1x2048x1024, .f32⟩
  | 68 => ⟨S1x2048x1024, .f32⟩
  | 69 => ⟨S_, .i32⟩
  | 70 => ⟨S1x2048x2, .i32⟩
  | 71 => ⟨S1x2048x2, .i1⟩
  | 72 => ⟨S_, .f32⟩
  | 73 => ⟨S_, .f32⟩
  | 74 => ⟨S1x2048x2, .f32⟩
  | 75 => ⟨S1x2048x2, .f32⟩
  | 76 => ⟨S_, .f32⟩
  | 77 => ⟨S1x2048, .f32⟩
  | 78 => ⟨S_, .i1⟩
  | 79 => ⟨S1x2048, .i1⟩
  | 80 => ⟨S1x1024x1024, .f32⟩
  | 81 => ⟨S1024x1024, .f32⟩
  | 82 => ⟨S1x2048x1024, .f32⟩
  | 83 => ⟨S1x1024, .f32⟩
  | 84 => ⟨S1024, .f32⟩
  | 85 => ⟨S1x1x1024, .f32⟩
  | 86 => ⟨S1x2048x1024, .f32⟩
  | 87 => ⟨S1x2048x1024, .f32⟩
  | 88 => ⟨S1x2048x1, .f32⟩
  | 89 => ⟨S1x2048x1024, .f32⟩
  | 90 => ⟨S1x2048x1024, .f32⟩
  | 91 => ⟨S1x2048x1, .i1⟩
  | 92 => ⟨S_, .f32⟩
  | 93 => ⟨S_, .f32⟩
  | 94 => ⟨S1x2048x1024, .i1⟩
  | 95 => ⟨S1x2048x1024, .f32⟩
  | 96 => ⟨S1x2048x1024, .f32⟩
  | 97 => ⟨S1x2048x1024, .f32⟩
  | 98 => ⟨S_, .i32⟩
  | 99 => ⟨S1x2048x2, .i32⟩
  | 100 => ⟨S1x2048x2, .i1⟩
  | 101 => ⟨S_, .f32⟩
  | 102 => ⟨S_, .f32⟩
  | 103 => ⟨S1x2048x2, .f32⟩
  | 104 => ⟨S1x2048x2, .f32⟩
  | 105 => ⟨S_, .f32⟩
  | 106 => ⟨S1x2048, .f32⟩
  | 107 => ⟨S_, .i1⟩
  | 108 => ⟨S1x2048, .i1⟩
  | 109 => ⟨S1x1024x1024, .f32⟩
  | 110 => ⟨S1024x1024, .f32⟩
  | 111 => ⟨S1x2048x1024, .f32⟩
  | 112 => ⟨S1x1024, .f32⟩
  | 113 => ⟨S1024, .f32⟩
  | 114 => ⟨S1x1x1024, .f32⟩
  | 115 => ⟨S1x2048x1024, .f32⟩
  | 116 => ⟨S1x2048x1024, .f32⟩
  | 117 => ⟨S1x2048x1, .f32⟩
  | 118 => ⟨S1x2048x1024, .f32⟩
  | 119 => ⟨S1x2048x1024, .f32⟩
  | 120 => ⟨S1x2048x1, .i1⟩
  | 121 => ⟨S_, .f32⟩
  | 122 => ⟨S_, .f32⟩
  | 123 => ⟨S1x2048x1024, .i1⟩
  | 124 => ⟨S1x2048x1024, .f32⟩
  | 125 => ⟨S1x2048x1024, .f32⟩
  | 126 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_call2_v0 : Ref sig .tc := ⟨.hbm, 56, rfl⟩
abbrev main_call2_v1 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_c_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v49 : Ref sig .tc := ⟨.hbm, 79, rfl⟩
abbrev main_v50 : Ref sig .tc := ⟨.hbm, 80, rfl⟩
abbrev main_c_12 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_call4_v0 : Ref sig .tc := ⟨.hbm, 85, rfl⟩
abbrev main_call4_v1 : Ref sig .tc := ⟨.hbm, 86, rfl⟩
abbrev main_v53 : Ref sig .tc := ⟨.hbm, 87, rfl⟩
abbrev main_cst_14 : Ref sig .tc := ⟨.hbm, 88, rfl⟩
abbrev main_v54 : Ref sig .tc := ⟨.hbm, 89, rfl⟩
abbrev main_c_15 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_16 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_v68 : Ref sig .tc := ⟨.hbm, 108, rfl⟩
abbrev main_v69 : Ref sig .tc := ⟨.hbm, 109, rfl⟩
abbrev main_c_17 : Ref sig .tc := ⟨.hbm, 110, rfl⟩
abbrev main_v70 : Ref sig .tc := ⟨.hbm, 111, rfl⟩
abbrev main_v71 : Ref sig .tc := ⟨.hbm, 112, rfl⟩
abbrev main_cst_18 : Ref sig .tc := ⟨.hbm, 113, rfl⟩
abbrev main_call6_v0 : Ref sig .tc := ⟨.hbm, 114, rfl⟩
abbrev main_call6_v1 : Ref sig .tc := ⟨.hbm, 115, rfl⟩
abbrev main_v72 : Ref sig .tc := ⟨.hbm, 116, rfl⟩
abbrev main_cst_19 : Ref sig .tc := ⟨.hbm, 117, rfl⟩
abbrev main_v73 : Ref sig .tc := ⟨.hbm, 118, rfl⟩
abbrev main_c_20 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_21 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_v87 : Ref sig .tc := ⟨.hbm, 137, rfl⟩
abbrev main_v88 : Ref sig .tc := ⟨.hbm, 138, rfl⟩
abbrev main_c_22 : Ref sig .tc := ⟨.hbm, 139, rfl⟩
abbrev main_v89 : Ref sig .tc := ⟨.hbm, 140, rfl⟩
abbrev main_v90 : Ref sig .tc := ⟨.hbm, 141, rfl⟩
abbrev main_cst_23 : Ref sig .tc := ⟨.hbm, 142, rfl⟩
abbrev main_call8_v0 : Ref sig .tc := ⟨.hbm, 143, rfl⟩
abbrev main_call8_v1 : Ref sig .tc := ⟨.hbm, 144, rfl⟩
abbrev main_v91 : Ref sig .tc := ⟨.hbm, 145, rfl⟩
abbrev main_cst_24 : Ref sig .tc := ⟨.hbm, 146, rfl⟩
abbrev main_v92 : Ref sig .tc := ⟨.hbm, 147, rfl⟩
abbrev main_c_25 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_26 : Ref sig .tc := ⟨.hbm, 162, rfl⟩
abbrev main_call9_v0 : Ref sig .tc := ⟨.hbm, 163, rfl⟩
abbrev main_call9_v1 : Ref sig .tc := ⟨.hbm, 164, rfl⟩
abbrev main_call9_v2 : Ref sig .tc := ⟨.hbm, 165, rfl⟩
abbrev main_v106 : Ref sig .tc := ⟨.hbm, 166, rfl⟩
abbrev main_v107 : Ref sig .tc := ⟨.hbm, 167, rfl⟩
abbrev main_c_27 : Ref sig .tc := ⟨.hbm, 168, rfl⟩
abbrev main_v108 : Ref sig .tc := ⟨.hbm, 169, rfl⟩
abbrev main_v109 : Ref sig .tc := ⟨.hbm, 170, rfl⟩
abbrev main_cst_28 : Ref sig .tc := ⟨.hbm, 171, rfl⟩
abbrev main_call10_v0 : Ref sig .tc := ⟨.hbm, 172, rfl⟩
abbrev main_call10_v1 : Ref sig .tc := ⟨.hbm, 173, rfl⟩
abbrev main_v110 : Ref sig .tc := ⟨.hbm, 174, rfl⟩
abbrev main_cst_29 : Ref sig .tc := ⟨.hbm, 175, rfl⟩
abbrev main_v111 : Ref sig .tc := ⟨.hbm, 176, rfl⟩
abbrev main_c_30 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_31 : Ref sig .tc := ⟨.hbm, 191, rfl⟩
abbrev main_call11_v0 : Ref sig .tc := ⟨.hbm, 192, rfl⟩
abbrev main_call11_v1 : Ref sig .tc := ⟨.hbm, 193, rfl⟩
abbrev main_call11_v2 : Ref sig .tc := ⟨.hbm, 194, rfl⟩
abbrev main_v125 : Ref sig .tc := ⟨.hbm, 195, rfl⟩
abbrev main_v126 : Ref sig .tc := ⟨.hbm, 196, rfl⟩
abbrev main_c_32 : Ref sig .tc := ⟨.hbm, 197, rfl⟩
abbrev main_v127 : Ref sig .tc := ⟨.hbm, 198, rfl⟩
abbrev main_v128 : Ref sig .tc := ⟨.hbm, 199, rfl⟩
abbrev main_cst_33 : Ref sig .tc := ⟨.hbm, 200, rfl⟩
abbrev main_call12_v0 : Ref sig .tc := ⟨.hbm, 201, rfl⟩
abbrev main_call12_v1 : Ref sig .tc := ⟨.hbm, 202, rfl⟩
abbrev main_v129 : Ref sig .tc := ⟨.hbm, 203, rfl⟩
abbrev main_cst_34 : Ref sig .tc := ⟨.hbm, 204, rfl⟩
abbrev main_v130 : Ref sig .tc := ⟨.hbm, 205, rfl⟩
abbrev main_c_35 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_cst_36 : Ref sig .tc := ⟨.hbm, 220, rfl⟩
abbrev main_call13_v0 : Ref sig .tc := ⟨.hbm, 221, rfl⟩
abbrev main_call13_v1 : Ref sig .tc := ⟨.hbm, 222, rfl⟩
abbrev main_call13_v2 : Ref sig .tc := ⟨.hbm, 223, rfl⟩
abbrev main_v144 : Ref sig .tc := ⟨.hbm, 224, rfl⟩
abbrev main_v145 : Ref sig .tc := ⟨.hbm, 225, rfl⟩
abbrev main_c_37 : Ref sig .tc := ⟨.hbm, 226, rfl⟩
abbrev main_v146 : Ref sig .tc := ⟨.hbm, 227, rfl⟩
abbrev main_v147 : Ref sig .tc := ⟨.hbm, 228, rfl⟩
abbrev main_cst_38 : Ref sig .tc := ⟨.hbm, 229, rfl⟩
abbrev main_call14_v0 : Ref sig .tc := ⟨.hbm, 230, rfl⟩
abbrev main_call14_v1 : Ref sig .tc := ⟨.hbm, 231, rfl⟩
abbrev main_v148 : Ref sig .tc := ⟨.hbm, 232, rfl⟩
abbrev main_cst_39 : Ref sig .tc := ⟨.hbm, 233, rfl⟩
abbrev main_v149 : Ref sig .tc := ⟨.hbm, 234, rfl⟩
abbrev main_c_40 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_cst_41 : Ref sig .tc := ⟨.hbm, 249, rfl⟩
abbrev main_call15_v0 : Ref sig .tc := ⟨.hbm, 250, rfl⟩
abbrev main_call15_v1 : Ref sig .tc := ⟨.hbm, 251, rfl⟩
abbrev main_call15_v2 : Ref sig .tc := ⟨.hbm, 252, rfl⟩
abbrev main_v163 : Ref sig .tc := ⟨.hbm, 253, rfl⟩
abbrev main_v164 : Ref sig .tc := ⟨.hbm, 254, rfl⟩

abbrev nD : Nat := 1
abbrev τ : Topo := Topo.v7x

variable {F : FTy → Type} [FloatOps F]
-- ==== Proof.KernelBlocks.lean ====
/- What the body leaves at one grid point, as the program's own payload terms: the pieces its stores leave in the output
   block and in the scratch that carries the routing weights, read back. -/
module

public import proofs.«01_k».proof.Proof.Gen.KernelIdeal.Frame
public import Idealize.ShloMosaic.Lib.Pipeline.Value

@[expose] public section

noncomputable section

namespace Cert.KernelIdeal.Blocks

open Cert.KernelIdeal Cert.KernelIdeal.Gen Idealize.ShloMosaic Idealize.ShloMosaic.TcCoe Idealize.SL.Sem
open Idealize.ShloMosaic.Tactic

variable {F : FTy → Type} [FloatOps F]
variable (m : (ℓ : Loc nD τ sig) → Buf (Elt F) ℓ)

/-- The two offsets of a rank-two rectangle at the origin are zero. -/
theorem zero2 : (![0, 0] : Fin 2 → ℕ) = fun _ => 0 := by decide

/-- The three offsets of a rank-three rectangle at the origin are zero. -/
theorem zero3 : (![0, 0, 0] : Fin 3 → ℕ) = fun _ => 0 := by decide

/-- The routing weights the first grid point stores: the two selections added. -/
def weights (x : Vec F S2048x1024 .f32) (r : Vec F S1024x8 .f32) : Vec F S2048x8 .f32 :=
  k0_pay1 (k0_pay10 x r) (k0_pay11 x r)

/-- The scratch after the first grid point holds the routing weights of the token block and the router matrix. -/
theorem scratch_first (c : Dev nD) (t : Fin cfg0.N) (h0 : t.val % 8 = 0) (h1 : t.val % 8 = 0) (h2 : ¬1 ≤ t.val) :
    (outsAt0 m c t.val t.isLt).2 = weights (iblk m c 0 t) (iblk m c 1 t) := by
  rw [outsAt0_A m c t h0 h1 h2]
  dsimp only
  unfold sout0_A_0
  rw [View.read_writes_eq_canon _ _ _ (scover0_A_0 c _ _ _ _ _ _ _ _ _ _ _ _ _ _ _ _ _ _ _ _)]
  unfold kernelRun0_A
  dsimp only
  sl_unfold_words
  simp only [View.readAt_eq_ld, (hs0_0 t).read_unread, (hs0_1 t).read_unread]
  rw [View.canon_unit_zero zero2, View.ld_unit_zero zero2, View.ld_unit_zero zero2]
  rfl

/-- The output block after the first grid point holds the first expert's contribution. -/
theorem out_first (c : Dev nD) (t : Fin cfg0.N) (h0 : t.val % 8 = 0) (h1 : t.val % 8 = 0) (h2 : ¬1 ≤ t.val) :
    (outsAt0 m c t.val t.isLt).1 = k0_pay2 (grid0.coords t) (iblk m c 0 t) (iblk m c 2 t) (iblk m c 3 t) (weights (iblk m c 0 t) (iblk m c 1 t)) := by
  rw [outsAt0_A m c t h0 h1 h2]
  dsimp only
  unfold out0_A_4
  rw [View.read_writes_eq_canon _ _ _ (cover0_A_4 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [View.canon_unit_zero zero2, View.readCov_unit_zero _ zero2, View.ld_unit_zero zero2, View.ld_unit_zero zero3,
    View.ld_unit_zero zero3, View.ld_unit_zero zero2]
  rfl

/-- The output block after a later grid point holds what the point before left, plus this point's expert's contribution. -/
theorem out_later (c : Dev nD) (t : Fin cfg0.N) (h0 : ¬t.val % 8 = 0) (h1 : ¬t.val % 8 = 0) (h2 : 1 ≤ t.val) :
    (outsAt0 m c t.val t.isLt).1 = k0_pay3 (grid0.coords t) (iblk m c 0 t) (iblk m c 2 t) (iblk m c 3 t) (outsAt0 m c (t.val - 1) (Nat.lt_of_le_of_lt (Nat.sub_le _ _) t.isLt)).2 (outsAt0 m c (t.val - 1) (Nat.lt_of_le_of_lt (Nat.sub_le _ _) t.isLt)).1 := by
  rw [outsAt0_B m c t h0 h1 h2]
  dsimp only
  unfold out0_B_4
  rw [View.read_writes_eq_canon _ _ _ (cover0_B_4 c _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread,
    (hs0_4 t).read_unread, (Memref.isWhole_whole cc0_scratch0).read_unread]
  rw [View.canon_unit_zero zero2, View.ld_unit_zero zero2, View.ld_unit_zero zero3, View.ld_unit_zero zero3, View.ld_unit_zero zero2,
    View.ld_unit_zero zero2]

/-- A later grid point leaves the scratch as it was. -/
theorem scratch_later (c : Dev nD) (t : Fin cfg0.N) (h0 : ¬t.val % 8 = 0) (h1 : ¬t.val % 8 = 0) (h2 : 1 ≤ t.val) :
    (outsAt0 m c t.val t.isLt).2 = (outsAt0 m c (t.val - 1) (Nat.lt_of_le_of_lt (Nat.sub_le _ _) t.isLt)).2 := by
  rw [outsAt0_B m c t h0 h1 h2]
  rfl

end Cert.KernelIdeal.Blocks

end
-- ==== Proof.KernelArray.lean ====
/- What the kernel's result array holds: the windows' blocks read off the arrays, the scratch and the output block after
   each grid point, the array after the last point, and the result buffer after the closing reshape. -/
module

public import proofs.«01_k».proof.Proof.KernelBlocks
public import Idealize.ShloMosaic.Lib.ValueIdx
public import Idealize.ShloMosaic.Lib.Claim

@[expose] public section

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-! ## The windows' blocks -/

/-- At every grid point the token window's block index is zero on both axes. -/
theorem tokens_index : ∀ t : Fin cfg0.N, win0_0.index t (0 : Fin 2) = 0 ∧ win0_0.index t (1 : Fin 2) = 0 :=
  (by decide +kernel : ∀ t : Fin grid0.N, _)

/-- At every grid point the router window's block index is zero on both axes. -/
theorem router_index : ∀ t : Fin cfg0.N, win0_1.index t (0 : Fin 2) = 0 ∧ win0_1.index t (1 : Fin 2) = 0 :=
  (by decide +kernel : ∀ t : Fin grid0.N, _)

/-- At grid point `t` the expert-matrix window's block index is `t` on the expert axis and zero on the others. -/
theorem experts_index : ∀ t : Fin cfg0.N, win0_2.index t (0 : Fin 3) = t.val ∧ win0_2.index t (1 : Fin 3) = 0 ∧ win0_2.index t (2 : Fin 3) = 0 :=
  (by decide +kernel : ∀ t : Fin grid0.N, _)

/-- At grid point `t` the bias window's block index is `t` on the expert axis and zero on the others. -/
theorem bias_index : ∀ t : Fin cfg0.N, win0_3.index t (0 : Fin 3) = t.val ∧ win0_3.index t (1 : Fin 3) = 0 ∧ win0_3.index t (2 : Fin 3) = 0 :=
  (by decide +kernel : ∀ t : Fin grid0.N, _)

/-- At every grid point the output window's block index is zero on both axes. -/
theorem out_index : ∀ t : Fin cfg0.N, win0_4.index t (0 : Fin 2) = 0 ∧ win0_4.index t (1 : Fin 2) = 0 :=
  (by decide +kernel : ∀ t : Fin grid0.N, _)

/-- The grid point's coordinate is its number. -/
theorem coord_val : ∀ t : Fin cfg0.N, (grid0.coords t 0).val = t.val :=
  (by decide +kernel : ∀ t : Fin grid0.N, _)

/-- Every grid point reads the whole token matrix. -/
theorem tokens_block (c : Dev nD) (t : Fin cfg0.N) (y : S2048x1024.Idx) : iblk m c 0 t y = V m c main_call0_v0 y := by
  show V m c main_call0_v0 (((cfg0.win 0).blk t).view.emb y) = _
  congr 1
  funext a
  apply Fin.ext
  obtain ⟨e0, e1⟩ := tokens_index t
  match a with
  | ⟨0, _⟩ => show win0_0.index t (0 : Fin 2) * 2048 + 1 * (y 0).val = (y 0).val; rw [e0]; omega
  | ⟨1, _⟩ => show win0_0.index t (1 : Fin 2) * 1024 + 1 * (y 1).val = (y 1).val; rw [e1]; omega

/-- Every grid point reads the whole router matrix. -/
theorem router_block (c : Dev nD) (t : Fin cfg0.N) (y : S1024x8.Idx) : iblk m c 1 t y = V m c main_arg1 y := by
  show V m c main_arg1 (((cfg0.win 1).blk t).view.emb y) = _
  congr 1
  funext a
  apply Fin.ext
  obtain ⟨e0, e1⟩ := router_index t
  match a with
  | ⟨0, _⟩ => show win0_1.index t (0 : Fin 2) * 1024 + 1 * (y 0).val = (y 0).val; rw [e0]; omega
  | ⟨1, _⟩ => show win0_1.index t (1 : Fin 2) * 8 + 1 * (y 1).val = (y 1).val; rw [e1]; omega

/-- Grid point `t` reads expert `t`'s matrix. -/
theorem experts_block (c : Dev nD) (t : Fin cfg0.N) (a : Fin 1) (k j : Fin 1024) :
    iblk m c 2 t (ValueIdx.ix3 a k j) = V m c main_call0_v1 (ValueIdx.ix3 (⟨t.val, lt_of_lt_of_eq t.isLt N_0⟩ : Fin 8) k j) := by
  show V m c main_call0_v1 (((cfg0.win 2).blk t).view.emb (ValueIdx.ix3 a k j)) = _
  congr 1
  funext b
  apply Fin.ext
  obtain ⟨e0, e1, e2⟩ := experts_index t
  have ha : a.val = 0 := by omega
  match b with
  | ⟨0, _⟩ => show win0_2.index t (0 : Fin 3) * 1 + 1 * a.val = t.val; rw [e0, ha]; omega
  | ⟨1, _⟩ => show win0_2.index t (1 : Fin 3) * 1024 + 1 * k.val = k.val; rw [e1]; omega
  | ⟨2, _⟩ => show win0_2.index t (2 : Fin 3) * 1024 + 1 * j.val = j.val; rw [e2]; omega

/-- Grid point `t` reads expert `t`'s bias row. -/
theorem bias_block (c : Dev nD) (t : Fin cfg0.N) (a b : Fin 1) (j : Fin 1024) :
    iblk m c 3 t (ValueIdx.ix3 a b j) = V m c main_call0_v2 (ValueIdx.ix3 (⟨t.val, lt_of_lt_of_eq t.isLt N_0⟩ : Fin 8) b j) := by
  show V m c main_call0_v2 (((cfg0.win 3).blk t).view.emb (ValueIdx.ix3 a b j)) = _
  congr 1
  funext d
  apply Fin.ext
  obtain ⟨e0, e1, e2⟩ := bias_index t
  have ha : a.val = 0 := by omega
  match d with
  | ⟨0, _⟩ => show win0_3.index t (0 : Fin 3) * 1 + 1 * a.val = t.val; rw [e0, ha]; omega
  | ⟨1, _⟩ => show win0_3.index t (1 : Fin 3) * 1 + 1 * b.val = b.val; rw [e1]; omega
  | ⟨2, _⟩ => show win0_3.index t (2 : Fin 3) * 1024 + 1 * j.val = j.val; rw [e2]; omega

/-! ## Point by point -/

/-- After every grid point the scratch holds the routing weights of the whole token matrix. -/
theorem scratch_eq (c : Dev nD) : ∀ (n : ℕ) (hn : n < cfg0.N),
    (outsAt0 m c n hn).2 = weights (V m c main_call0_v0) (V m c main_arg1)
  | 0, hn => by
    refine (scratch_first m c ⟨0, hn⟩ rfl rfl (Nat.not_succ_le_zero 0)).trans ?_
    rw [show iblk m c 0 ⟨0, hn⟩ = V m c main_call0_v0 from funext (tokens_block m c _),
      show iblk m c 1 ⟨0, hn⟩ = V m c main_arg1 from funext (router_block m c _)]
  | n + 1, hn => by
    have h8 : n + 1 < 8 := lt_of_lt_of_eq hn N_0
    have h : ¬(n + 1) % 8 = 0 := by omega
    exact (scratch_later m c ⟨n + 1, hn⟩ h h (Nat.succ_pos n)).trans (scratch_eq c n (Nat.lt_of_succ_lt hn))

/-- Expert `t`'s contribution to the output block, as the body computes it at grid point `t`. -/
def part (c : Dev nD) (t : Fin cfg0.N) : FVec F S2048x1024 .f32 :=
  k0_pay2 (grid0.coords t) (V m c main_call0_v0) (iblk m c 2 t) (iblk m c 3 t) (weights (V m c main_call0_v0) (V m c main_arg1))

/-- After the first grid point the output block holds the first contribution. -/
theorem out_zero (c : Dev nD) (hn : 0 < cfg0.N) : (outsAt0 m c 0 hn).1 = part m c ⟨0, hn⟩ := by
  refine (out_first m c ⟨0, hn⟩ rfl rfl (Nat.not_succ_le_zero 0)).trans ?_
  unfold part
  rw [show iblk m c 0 ⟨0, hn⟩ = V m c main_call0_v0 from funext (tokens_block m c _),
    show iblk m c 1 ⟨0, hn⟩ = V m c main_arg1 from funext (router_block m c _)]

/-- After a later grid point the output block holds what it held plus that point's contribution. -/
theorem out_succ (c : Dev nD) (n : ℕ) (hn : n + 1 < cfg0.N) :
    (outsAt0 m c (n + 1) hn).1 = addf (outsAt0 m c n (Nat.lt_of_succ_lt hn)).1 (part m c ⟨n + 1, hn⟩) := by
  have h8 : n + 1 < 8 := lt_of_lt_of_eq hn N_0
  have h : ¬(n + 1) % 8 = 0 := by omega
  refine (out_later m c ⟨n + 1, hn⟩ h h (Nat.succ_pos n)).trans ?_
  unfold part k0_pay3
  rw [show iblk m c 0 ⟨n + 1, hn⟩ = V m c main_call0_v0 from funext (tokens_block m c _)]
  show addf (shapeCast S2048x1024 (outsAt0 m c n _).1 shapeCasts_S2048x1024_S2048x1024)
    (k0_pay2 _ _ _ _ (outsAt0 m c n _).2) = _
  rw [scratch_eq m c n]
  rw [shapeCast_self]

/-! ## The array -/

/-- The last grid point. -/
def last : Fin cfg0.N := ⟨7, lt_of_lt_of_eq (by decide) N_0.symm⟩

/-- A block of the output window placed in its array is where it is. -/
theorem out_emb (t : Fin cfg0.N) (y : S2048x1024.Idx) : ((cfg0.win 4).blk t).view.emb y = y := by
  funext a
  apply Fin.ext
  obtain ⟨e0, e1⟩ := out_index t
  match a with
  | ⟨0, _⟩ => show win0_4.index t (0 : Fin 2) * 2048 + 1 * (y 0).val = (y 0).val; rw [e0]; omega
  | ⟨1, _⟩ => show win0_4.index t (1 : Fin 2) * 1024 + 1 * (y 1).val = (y 1).val; rw [e1]; omega

/-- After the run the output array holds what the output block held after the last grid point. -/
theorem array_eq (c : Dev nD) : (dats m 0 c).arrAt 4 cfg0.N = (outsAt0 m c 7 last.isLt).1 := by
  refine (dats m 0 c).arrAt_eq_of_cover 4 _ (fun t hf => ?_) (fun i => ⟨last, (flush0_4 last).mpr rfl, ?_⟩)
  · have ht : t.val % 8 = 7 := (flush0_4 t).mp hf
    have hN : t.val < 8 := lt_of_lt_of_eq t.isLt N_0
    obtain rfl : t = last := Fin.ext (show t.val = 7 by omega)
    show (cfg0.win 4).cut (grid0.coords last) ((dats m 0 c).after 4 last) = _
    rw [after0_4]
    funext y
    show (outsAt0 m c 7 last.isLt).1 ((cfg0.win 4).xinj (grid0.coords last) y) = (outsAt0 m c 7 last.isLt).1 (((cfg0.win 4).blk last).view.emb y)
    rw [out_emb last y]
  · have h := ((cfg0.win 4).blk last).view.emb_mem_set i
    rwa [out_emb last i] at h

end Cert.KernelIdeal.Blocks

end
-- ==== Proof.Router.lean ====
/- The router's choice on one token: its two greatest logits, the first of the places where each is reached, and the weight
   each expert gets. Nothing here speaks of a program. -/
module

public import Idealize.ShloMosaic.PureOps.Ideal.Laws
public import Idealize.ShloMosaic.PureOps.Float

@[expose] public section

noncomputable section

namespace Cert.Moe

open Idealize.ShloMosaic

/-! ## The two chosen experts -/

/-- Among the experts allowed by `P`, `a` has the greatest logit, and no earlier one has as great a logit. -/
def FirstMax (P : Fin 8 → Prop) (l : Fin 8 → EReal) (a : Fin 8) : Prop :=
  P a ∧ ∀ e, P e → l e ≤ l a ∧ (e < a → l e < l a)

/-- If some expert is allowed, one of the allowed ones comes first among those with the greatest logit. -/
theorem exists_firstMax (P : Fin 8 → Prop) (l : Fin 8 → EReal) (h : ∃ e, P e) : ∃ a, FirstMax P l a := by
  classical
  obtain ⟨e₀, h₀⟩ := h
  obtain ⟨a, ha, hmax⟩ := Finset.exists_max_image (Finset.univ.filter P) (fun e => toLex (l e, OrderDual.toDual e))
    ⟨e₀, Finset.mem_filter.mpr ⟨Finset.mem_univ _, h₀⟩⟩
  refine ⟨a, (Finset.mem_filter.mp ha).2, fun e he => ?_⟩
  have hle := hmax e (Finset.mem_filter.mpr ⟨Finset.mem_univ _, he⟩)
  rcases (Prod.Lex.le_iff.mp hle) with hlt | ⟨heq, hdual⟩
  · exact ⟨le_of_lt hlt, fun _ => hlt⟩
  · exact ⟨le_of_eq heq, fun hea => absurd (OrderDual.toDual_le_toDual.mp hdual) (not_le.mpr hea)⟩

/-- `a` is the expert chosen first and `b` the one chosen second: the first place of the greatest logit, and the first place of
    the greatest among the others. -/
structure TopTwo (l : Fin 8 → EReal) (a b : Fin 8) : Prop where
  first : FirstMax (fun _ => True) l a
  second : FirstMax (fun e => e ≠ a) l b

/-- Every row of logits has its two chosen experts. -/
theorem exists_topTwo (l : Fin 8 → EReal) : ∃ a b, TopTwo l a b := by
  obtain ⟨a, ha⟩ := exists_firstMax (fun _ => True) l ⟨0, trivial⟩
  obtain ⟨b, hb⟩ := exists_firstMax (fun e => e ≠ a) l
    (by by_cases h : a = 0
        · exact ⟨1, by rw [h]; decide⟩
        · exact ⟨0, fun e => h e.symm⟩)
  exact ⟨a, b, ha, hb⟩

/-- The row with the first chosen expert's logit replaced by the least value. -/
def masked (l : Fin 8 → EReal) (a : Fin 8) : Fin 8 → EReal := fun e => if e = a then ⊥ else l e

/-- When no logit is the least value, the second chosen expert is the first place of the masked row's greatest entry. -/
theorem TopTwo.masked {l : Fin 8 → EReal} {a b : Fin 8} (h : TopTwo l a b) (hl : ∀ e, l e ≠ ⊥) :
    FirstMax (fun _ => True) (masked l a) b := by
  obtain ⟨hba, hb⟩ := h.second
  refine ⟨trivial, fun e _ => ?_⟩
  have eb : Moe.masked l a b = l b := if_neg hba
  by_cases hea : e = a
  · have ee : Moe.masked l a e = ⊥ := if_pos hea
    rw [eb, ee]
    exact ⟨bot_le, fun _ => bot_lt_iff_ne_bot.mpr (hl b)⟩
  · have ee : Moe.masked l a e = l e := if_neg hea
    rw [eb, ee]
    exact hb e hea

/-! ## How a running maximum and a running minimum find them -/

/-- The running maximum of a row, started at the least value, is the greatest entry. -/
theorem fold_max {l : Fin 8 → EReal} {a : Fin 8} (h : FirstMax (fun _ => True) l a) :
    (Finset.univ : Finset (Fin 8)).fold max ⊥ l = l a := by
  refine le_antisymm (Finset.fold_max_le _ |>.mpr ⟨bot_le, fun e _ => (h.2 e trivial).1⟩) ?_
  exact Finset.le_fold_max _ |>.mpr (Or.inr ⟨a, Finset.mem_univ _, le_rfl⟩)

/-- The signed minimum of two words has the smaller of the two signed values. -/
theorem toInt_minsi (x y : BitVec 32) : (IntOp.minsi x y).toInt = min x.toInt y.toInt := by
  unfold IntOp.minsi
  simp only [BitVec.slt, decide_eq_true_eq]
  split <;> omega

/-- The word of an expert's number has that number as its signed value. -/
theorem toInt_ofNat (e : Fin 8) : (BitVec.ofNat 32 e.val).toInt = e.val := by
  revert e; decide

/-- The running signed minimum, started at the greatest word, over the numbers of the experts whose logit is the greatest, an
    expert with a smaller logit counting as 8, is the number of the first chosen expert. -/
theorem fold_min {l : Fin 8 → EReal} {a : Fin 8} (h : FirstMax (fun _ => True) l a) (f : Fin 8 → BitVec 32)
    (hf : ∀ e, f e = if l e = l a then BitVec.ofNat 32 e.val else 8#32) :
    (Finset.univ : Finset (Fin 8)).fold IKind.minsi.op 2147483647#32 f = BitVec.ofNat 32 a.val := by
  apply BitVec.eq_of_toInt_eq
  have hm := Finset.fold_hom (s := (Finset.univ : Finset (Fin 8))) (op := (IKind.minsi.op : BitVec 32 → BitVec 32 → BitVec 32)) (op' := min)
    (f := f) (b := 2147483647#32) (m := BitVec.toInt) toInt_minsi
  refine hm.symm.trans ?_
  rw [toInt_ofNat]
  have hbig : (2147483647#32 : BitVec 32).toInt = 2147483647 := by decide
  have h8 : (8#32 : BitVec 32).toInt = 8 := by decide
  have ha : a.val < 8 := a.isLt
  refine le_antisymm (Finset.fold_min_le _ |>.mpr (Or.inr ⟨a, Finset.mem_univ _, ?_⟩)) (Finset.le_fold_min _ |>.mpr ⟨?_, fun e _ => ?_⟩)
  · rw [hf a, if_pos rfl, toInt_ofNat]
  · rw [hbig]; omega
  · rw [hf e]
    by_cases hle : l e = l a
    · rw [if_pos hle, toInt_ofNat]
      have : ¬e < a := fun hea => absurd hle (ne_of_lt ((h.2 e trivial).2 hea))
      have : a.val ≤ e.val := not_lt.mp this
      omega
    · rw [if_neg hle, h8]; omega

/-! ## The weights -/

/-- The first chosen expert's weight: one over one plus the exponential of the second logit less the first. -/
def share (l : Fin 8 → EReal) (a b : Fin 8) : EReal := Ideal.div 1 (1 + Ideal.exp (l b - l a))

/-- The weight of expert `e`: the first chosen one's share, the second's the rest, and zero for the others. -/
def gate (l : Fin 8 → EReal) (a b e : Fin 8) : EReal := (if e = a then share l a b else 0) + (if e = b then 1 - share l a b else 0)

/-- With real logits, the two-place softmax gives the first chosen expert its share. -/
theorem softmax_first {l : Fin 8 → EReal} {x : Fin 8 → ℝ} (hx : ∀ e, l e = (x e : EReal)) (a b : Fin 8) :
    Ideal.div (Ideal.exp (l a - l a)) (0 + (Ideal.exp (l a - l a) + Ideal.exp (l b - l a))) = share l a b := by
  have h1 : Ideal.exp (l a - l a) = 1 := by
    rw [hx a, ← EReal.coe_sub, sub_self, Ideal.exp_coe, Real.exp_zero, EReal.coe_one]
  rw [h1, zero_add, share]

/-- With real logits, the two-place softmax gives the second chosen expert what the first leaves of one. -/
theorem softmax_second {l : Fin 8 → EReal} {x : Fin 8 → ℝ} (hx : ∀ e, l e = (x e : EReal)) (a b : Fin 8) :
    Ideal.div (Ideal.exp (l b - l a)) (0 + (Ideal.exp (l a - l a) + Ideal.exp (l b - l a))) = 1 - share l a b := by
  have h1 : Ideal.exp (l a - l a) = 1 := by
    rw [hx a, ← EReal.coe_sub, sub_self, Ideal.exp_coe, Real.exp_zero, EReal.coe_one]
  have h2 : Ideal.exp (l b - l a) = ((Real.exp (x b - x a) : ℝ) : EReal) := by
    rw [hx a, hx b, ← EReal.coe_sub, Ideal.exp_coe]
  have hpos : (1 + Real.exp (x b - x a)) ≠ 0 := by positivity
  rw [h1, zero_add, share, h2, ← EReal.coe_one, ← EReal.coe_add, Ideal.div_coe hpos, Ideal.div_coe hpos, ← EReal.coe_mul,
    ← EReal.coe_mul, ← EReal.coe_sub]
  congr 1
  field_simp
  ring

end Cert.Moe

end
-- ==== Proof.KernelRow.lean ====
/- What the kernel's body computes over the extended reals, read at one place: the logits of a token, the two greatest of them,
   the routing weights, and one expert's contribution to the output block. -/
module

public import proofs.«01_k».proof.Proof.KernelArray
public import proofs.«01_k».proof.Proof.Router
public import Idealize.ShloMosaic.Lib.MatmulPlain
public import Idealize.ShloMosaic.Lib.ValueLayout
public import Idealize.ShloMosaic.Lib.IdealHost

@[expose] public section

noncomputable section

namespace Cert.KernelIdeal.Row

open Cert.KernelIdeal Cert.KernelIdeal.Gen Cert.KernelIdeal.Blocks Cert.Moe Idealize.ShloMosaic Idealize.ShloMosaic.ValueIdx

/-! ## Layout -/

/-- A column made of a vector reads the vector. -/
theorem column_apply {α : Type} (v : S2048.Idx → α) (h : S2048.ShapeCasts S2048x1) (r : Fin 2048) (z : Fin 1) :
    shapeCast S2048x1 v h (ix2 r z) = v (ix1 r) := by
  refine shapeCast_apply v h _ _ ?_
  rw [Shape.rowMajor_val_one, Shape.rowMajor_val_two]
  show r.val = r.val * 1 + z.val
  omega

/-- A column repeated along the rows reads the column. -/
theorem spread_apply {α : Type} {n : ℕ} (v : S2048x1.Idx → α) (h : S2048x1.Broadcasts ⟨2, ![2048, n]⟩) (r : Fin 2048) (e : Fin n) :
    broadcastTo ⟨2, ![2048, n]⟩ v h (ix2 r e) = v (ix2 r (0 : Fin 1)) := by
  refine broadcastTo_apply v h (ix2 r e) (ix2 r (0 : Fin 1)) fun ax => ?_
  match ax with
  | ⟨0, _⟩ => rfl
  | ⟨1, _⟩ => rfl

/-- The entry of a row's reduction that comes from expert `e`. -/
theorem lift_row (r : Fin 2048) (e : Fin 8) : reduces_S2048x8_S2048.lift (ix1 r) e = ix2 r e := by
  funext a
  match a with
  | ⟨0, _⟩ => rfl
  | ⟨1, _⟩ => rfl

/-- The maximum of each row, read at a row. -/
theorem rowMax_apply (x : FVec Ideal S2048x8 .f32) (hφ : FKind.Formats .f32) (hacc : (0xFF800000#32 : BitVec 32) = FKind.maximumf.neutral .f32 hφ) (r : Fin 2048) :
    multiReduction .maximumf [1] S2048 x 0xFF800000#32 reduces_S2048x8_S2048 hφ hacc (ix1 r)
      = (Finset.univ : Finset (Fin 8)).fold max ⊥ fun e => x (ix2 r e) := by
  refine (Ideal.multiReduction_maximumf_single x _ reduces_S2048x8_S2048 hφ hacc (ix1 r)).trans ?_
  rw [show (FloatOps.ofBits .f32 0xFF800000#32 : Ideal .f32) = (⊥ : EReal) from by
    show Ideal.ofBits .f32 0xFF800000#32 = ⊥; simp [Ideal.ofBits, Ideal.ieee]]
  exact congrArg (fun f => (Finset.univ : Finset (Fin 8)).fold max ⊥ f) (funext fun e => congrArg x (lift_row r e))

/-- The sum of each row, read at a row. -/
theorem rowSum_apply (x : FVec Ideal S2048x8 .f32) (hφ : FKind.Formats .f32) (hacc : (0x00000000#32 : BitVec 32) = FKind.add.neutral .f32 hφ) (r : Fin 2048) :
    multiReduction .add [1] S2048 x 0x00000000#32 reduces_S2048x8_S2048 hφ hacc (ix1 r) = ∑ e : Fin 8, x (ix2 r e) := by
  refine (Ideal.multiReduction_add_single x _ reduces_S2048x8_S2048 hφ hacc (ix1 r)).trans ?_
  exact Finset.sum_congr rfl fun e _ => congrArg x (lift_row r e)

/-- The signed minimum of each row, read at a row. -/
theorem rowMin_apply (x : IVec S2048x8 32) (hacc : (2147483647#32 : BitVec 32) = IKind.minsi.neutral) (r : Fin 2048) :
    multiReductionI .minsi [1] S2048 x 2147483647#32 reduces_S2048x8_S2048 hacc (ix1 r)
      = (Finset.univ : Finset (Fin 8)).fold IKind.minsi.op 2147483647#32 fun e => x (ix2 r e) := by
  rw [multiReductionI_eq_fold, reduces_S2048x8_S2048.fold_filter_drop_single]
  exact congrArg (fun f => (Finset.univ : Finset (Fin 8)).fold IKind.minsi.op 2147483647#32 f) (funext fun e => congrArg x (lift_row r e))

/-- The expert axis' counter reads the expert's number. -/
theorem counter_apply (r : Fin 2048) (e : Fin 8) : iota .tc S2048x8 32 [1] iota_S2048x8_d1_w32 (ix2 r e) = BitVec.ofNat 32 e.val :=
  iota_single_apply .tc S2048x8 32 1 iota_S2048x8_d1_w32 (ix2 r e)

/-- The word of the float one is one. -/
theorem one_word : (Scalar.ofBits .f32 0x3F800000#32 : Ideal .f32) = (1 : EReal) := Ideal.ofBits_one_f32

/-- Two experts with the same word are the same. -/
theorem word_inj (e a : Fin 8) : BitVec.ofNat 32 e.val = BitVec.ofNat 32 a.val ↔ e = a := by
  revert e a; decide

/-- A choice by the equality of two experts' words is the choice by the equality of the experts. -/
theorem select_word {α : Type} (e a : Fin 8) (x y : α) :
    Scalar.select (IntOp.cmpi .eq (BitVec.ofNat 32 e.val) (BitVec.ofNat 32 a.val)) x y = if e = a then x else y := by
  show (if BitVec.ofBool (BitVec.ofNat 32 e.val == BitVec.ofNat 32 a.val) = 1#1 then x else y) = _
  by_cases h : e = a
  · rw [h, beq_self_eq_true, if_pos rfl]; rfl
  · rw [beq_eq_false_iff_ne.mpr fun h' => h ((word_inj e a).mp h'), if_neg h]; rfl

/-- A choice by the equality of two extended reals. -/
theorem select_oeq {α : Type} (p q : Ideal .f32) (x y : α) :
    Scalar.select (FloatOps.cmpf .oeq p q) x y = if (p : EReal) = q then x else y := by
  show (if BitVec.ofBool (decide ((p : EReal) = q)) = 1#1 then x else y) = _
  by_cases h : (p : EReal) = q
  · rw [if_pos h, decide_eq_true h]; rfl
  · rw [if_neg h, decide_eq_false h]; rfl

/-! ## The router's row -/

variable (X : FVec Ideal S2048x1024 .f32) (R : FVec Ideal S1024x8 .f32)

/-- Token `r`'s logit for expert `e`. -/
def logit (r : Fin 2048) (e : Fin 8) : EReal := ∑ k : Fin 1024, X (ix2 r k) * R (ix2 k e)

/-- The body's router product is the logits. -/
theorem logits_apply (r : Fin 2048) (e : Fin 8) : k0_pay4 (F := Ideal) X R (ix2 r e) = logit X R r e := by
  unfold k0_pay4
  rw [shapeCast_self]
  refine (Ideal.matmul_plain_apply none X R (constant S2048x8 .f32 0x00000000#32) r e).trans ?_
  rw [show constant (F := Ideal) S2048x8 .f32 0x00000000#32 (ix2 r e) = (0 : EReal) from Ideal.ofBits_zero_f32, zero_add]
  rfl

section Choice

variable {X R} {r : Fin 2048} {a b : Fin 8} (h : TopTwo (logit X R r) a b) (hl : ∀ e, logit X R r e ≠ ⊥)

include h

/-- The body's first maximum is the first chosen expert's logit. -/
theorem max1_apply (z : Fin 1) : k0_pay5 (F := Ideal) X R (ix2 r z) = logit X R r a := by
  unfold k0_pay5
  refine (column_apply _ _ r z).trans ((rowMax_apply _ _ _ r).trans ?_)
  rw [← fold_max h.first]
  exact congrArg (fun f => (Finset.univ : Finset (Fin 8)).fold max ⊥ f) (funext fun e => logits_apply X R r e)

/-- The body's first mask picks the first chosen expert. -/
theorem pick1_apply {α : Type} (e : Fin 8) (x y : α) : Scalar.select (k0_pay6 (F := Ideal) X R (ix2 r e)) x y = if e = a then x else y := by
  unfold k0_pay6
  refine Eq.trans ?_ (select_word e a x y)
  refine congrArg (fun w => Scalar.select w x y) ?_
  refine congrArg₂ (IntOp.cmpi .eq) (counter_apply r e) ?_
  refine (spread_apply _ broadcasts_S2048x1_S2048x8 r e).trans ((column_apply _ _ r 0).trans ((rowMin_apply _ _ r).trans ?_))
  refine fold_min h.first _ fun e' => ?_
  show Scalar.select (FloatOps.cmpf .oeq (k0_pay4 (F := Ideal) X R (ix2 r e')) (broadcastTo S2048x8 (k0_pay5 (F := Ideal) X R) broadcasts_S2048x1_S2048x8 (ix2 r e')))
    (iota .tc S2048x8 32 [1] iota_S2048x8_d1_w32 (ix2 r e')) 8#32 = _
  rw [select_oeq, counter_apply, logits_apply, spread_apply, max1_apply h]

/-- The body's masked logits are the logits with the first chosen expert's replaced by the least value. -/
theorem masked_apply (e : Fin 8) : k0_pay7 (F := Ideal) X R (ix2 r e) = masked (logit X R r) a e := by
  unfold k0_pay7
  refine (pick1_apply h e _ _).trans ?_
  unfold masked
  rw [logits_apply]
  congr 1

include hl

/-- The body's second maximum is the second chosen expert's logit. -/
theorem max2_apply (z : Fin 1) : k0_pay8 (F := Ideal) X R (ix2 r z) = logit X R r b := by
  unfold k0_pay8
  refine (column_apply _ _ r z).trans ((rowMax_apply _ _ _ r).trans ?_)
  refine Eq.trans ?_ ((fold_max (h.masked hl)).trans (if_neg h.second.1))
  exact congrArg (fun f => (Finset.univ : Finset (Fin 8)).fold max ⊥ f) (funext fun e => masked_apply h e)

/-- The body's first weight is the first chosen expert's share. -/
theorem share_apply (z : Fin 1) : k0_pay9 (F := Ideal) X R (ix2 r z) = share (logit X R r) a b := by
  unfold k0_pay9 share
  refine (divf_apply _ _ _).trans (congrArg₂ Ideal.div one_word ?_)
  refine (addf_apply _ _ _).trans (congrArg₂ (fun p q : EReal => p + q) one_word ?_)
  have hd : subf (k0_pay8 (F := Ideal) X R) (k0_pay5 (F := Ideal) X R) (ix2 r z) = logit X R r b - logit X R r a := by
    rw [subf_apply, max2_apply h hl, max1_apply h]
  exact (Ideal.exp_def _).trans (congrArg Ideal.exp hd)

/-- The body's first part of the weights: the share at the first chosen expert. -/
theorem part1_apply (e : Fin 8) : k0_pay10 (F := Ideal) X R (ix2 r e) = if e = a then share (logit X R r) a b else 0 := by
  unfold k0_pay10
  refine (pick1_apply h e _ _).trans ?_
  rw [shapeCast_self, spread_apply, share_apply h hl]
  congr 1
  exact Ideal.ofBits_zero_f32

/-- The body's second part of the weights: the rest of one at the second chosen expert. -/
theorem part2_apply (e : Fin 8) : k0_pay11 (F := Ideal) X R (ix2 r e) = if e = b then 1 - share (logit X R r) a b else 0 := by
  unfold k0_pay11
  have hpick : multiReductionI .minsi [1] S2048
      (select (cmpf .oeq (k0_pay7 (F := Ideal) X R) (broadcastTo S2048x8 (k0_pay8 (F := Ideal) X R) broadcasts_S2048x1_S2048x8))
        (iota .tc S2048x8 32 [1] iota_S2048x8_d1_w32) (broadcast S2048x8 8#32)) 2147483647#32 reduces_S2048x8_S2048 rfl (ix1 r)
      = BitVec.ofNat 32 b.val := by
    refine (rowMin_apply _ _ r).trans (fold_min (h.masked hl) _ fun e' => ?_)
    show Scalar.select (FloatOps.cmpf .oeq (k0_pay7 (F := Ideal) X R (ix2 r e')) (broadcastTo S2048x8 (k0_pay8 (F := Ideal) X R) broadcasts_S2048x1_S2048x8 (ix2 r e')))
      (iota .tc S2048x8 32 [1] iota_S2048x8_d1_w32 (ix2 r e')) 8#32 = _
    rw [select_oeq, counter_apply, masked_apply h, spread_apply, max2_apply h hl, show masked (logit X R r) a b = logit X R r b from if_neg h.second.1]
  show Scalar.select (IntOp.cmpi .eq (iota .tc S2048x8 32 [1] iota_S2048x8_d1_w32 (ix2 r e))
      (broadcastTo S2048x8 (shapeCast S2048x1 _ shapeCasts_S2048_S2048x1) broadcasts_S2048x1_S2048x8 (ix2 r e)))
    (broadcastTo S2048x8 (shapeCast S2048x1 (subf (broadcast S2048x1 (Scalar.ofBits .f32 0x3F800000#32)) (k0_pay9 (F := Ideal) X R)) shapeCasts_S2048x1_S2048x1) broadcasts_S2048x1_S2048x8 (ix2 r e))
    (Ideal.ofBits .f32 0x00000000#32) = _
  rw [counter_apply, spread_apply, column_apply, hpick, select_word, shapeCast_self, spread_apply, Ideal.ofBits_zero_f32]
  refine congrArg (fun p : EReal => if e = b then p else 0) ?_
  exact congrArg₂ (fun p q : EReal => p - q) one_word (share_apply h hl 0)

/-- The scratch holds each expert's weight. -/
theorem weights_apply (e : Fin 8) : weights (F := Ideal) X R (ix2 r e) = gate (logit X R r) a b e := by
  unfold weights k0_pay1
  rw [shapeCast_self]
  show k0_pay10 (F := Ideal) X R (ix2 r e) + k0_pay11 (F := Ideal) X R (ix2 r e) = _
  rw [part1_apply h hl, part2_apply h hl]
  rfl

end Choice

/-! ## One expert's contribution -/

/-- At the grid point of expert `e` the contribution is the expert's product plus its bias, times the token's weight for it. -/
theorem contribution_apply (i : grid0.Coords) (e : Fin 8) (hi : (i 0).val = e.val) (W : FVec Ideal S1x1024x1024 .bf16) (B : FVec Ideal S1x1x1024 .f32)
    (S : FVec Ideal S2048x8 .f32) (r : Fin 2048) (d : Fin 1024) :
    k0_pay2 (F := Ideal) i X W B S (ix2 r d)
      = ((∑ k : Fin 1024, X (ix2 r k) * W (ix3 (0 : Fin 1) k d)) + B (ix3 (0 : Fin 1) (0 : Fin 1) d)) * S (ix2 r e) := by
  have hW : ∀ k : Fin 1024, shapeCast S1024x1024 W shapeCasts_S1x1024x1024_S1024x1024 (ix2 k d) = W (ix3 (0 : Fin 1) k d) := fun k => by
    refine shapeCast_apply W _ _ _ ?_
    rw [Shape.rowMajor_val_three, Shape.rowMajor_val_two]
    show (0 * 1024 + k.val) * 1024 + d.val = k.val * 1024 + d.val
    omega
  have hB : shapeCast S1x1024 B shapeCasts_S1x1x1024_S1x1024 (ix2 (0 : Fin 1) d) = B (ix3 (0 : Fin 1) (0 : Fin 1) d) := by
    refine shapeCast_apply B _ _ _ ?_
    rw [Shape.rowMajor_val_three, Shape.rowMajor_val_two]
    show (0 * 1 + 0) * 1024 + d.val = 0 * 1024 + d.val
    omega
  have hS : (∑ e' : Fin 8, (if e' = e then S (ix2 r e') else (0 : EReal))) = S (ix2 r e) := by
    rw [Finset.sum_ite_eq' Finset.univ e fun e' => S (ix2 r e'), if_pos (Finset.mem_univ _)]
  unfold k0_pay2
  refine congrArg₂ (fun p q : EReal => p * q) (congrArg₂ (fun p q : EReal => p + q) ?_ ?_) ?_
  · refine (Ideal.matmul_plain_apply none _ _ _ r d).trans ?_
    rw [show constant (F := Ideal) S2048x1024 .f32 0x00000000#32 (ix2 r d) = (0 : EReal) from Ideal.ofBits_zero_f32, zero_add]
    refine Finset.sum_congr rfl fun k _ => congrArg₂ (fun p q : EReal => p * q) ?_ (hW k)
    show shapeCast S2048x1024 X shapeCasts_S2048x1024_S2048x1024 (ix2 r k) = _
    rw [shapeCast_self]
  · exact (broadcastTo_1b_ab_apply _ _ r d).trans hB
  · refine (spread_apply _ broadcasts_S2048x1_S2048x1024 r d).trans ((column_apply _ _ r 0).trans ((rowSum_apply _ _ _ r).trans (Eq.trans ?_ hS)))
    refine Finset.sum_congr rfl fun e' _ => ?_
    show Scalar.select (IntOp.cmpi .eq (iota .tc S2048x8 32 [1] iota_S2048x8_d1_w32 (ix2 r e')) (BitVec.ofNat 32 (i 0).val)) (S (ix2 r e'))
      (Ideal.ofBits .f32 0x00000000#32) = _
    rw [counter_apply, hi, select_word, Ideal.ofBits_zero_f32]

end Cert.KernelIdeal.Row

end
-- ==== Proof.KernelResult.lean ====
/- The kernel's result, entry by entry, over the extended reals: the arrays the launch finds, the output array as a sum over the
   experts, and the result buffer at the end of a run. -/
module

public import proofs.«01_k».proof.Proof.KernelRow

@[expose] public section

noncomputable section

namespace Cert.KernelIdeal.Result

open Cert.KernelIdeal Cert.KernelIdeal.Gen Cert.KernelIdeal.Blocks Cert.KernelIdeal.Row Cert.Moe
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The tokens as launched. -/
abbrev argX (c : Dev nD) : S1x2048x1024.Idx → EReal := m ((c : Thread nD τ).loc main_arg0)
/-- The router matrix as launched. -/
abbrev argR (c : Dev nD) : S1024x8.Idx → EReal := m ((c : Thread nD τ).loc main_arg1)
/-- The experts' matrices as launched. -/
abbrev argW (c : Dev nD) : S8x1024x1024.Idx → EReal := m ((c : Thread nD τ).loc main_arg2)
/-- The experts' biases as launched. -/
abbrev argB (c : Dev nD) : S8x1024.Idx → EReal := m ((c : Thread nD τ).loc main_arg3)

/-! ## The arrays the launch finds -/

/-- The token matrix is the tokens without their leading unit axis. -/
theorem tokens_eq (c : Dev nD) : V m c main_call0_v0 = shapeCast S2048x1024 (argX m c) shapeCasts_S1x2048x1024_S2048x1024 := by
  unfold V V0
  simp only [hostOps0, List.flatten_cons, List.flatten_nil, List.append_nil, TRef.unary, TRef.reshape, TRef.toBuf, TRef.ofBuf, cast_eq]
  after_results_simp
  rfl

/-- The experts' matrices in the narrower format are, over the extended reals, the matrices themselves. -/
theorem experts_eq (c : Dev nD) (i : S8x1024x1024.Idx) : V m c main_call0_v1 i = argW m c i := by
  have h : V m c main_call0_v1 = truncf (F := Ideal) .bf16 (argW m c : FVec Ideal S8x1024x1024 .f32) bitsLt_bf16_f32 := by
    unfold V V0
    simp only [hostOps0, List.flatten_cons, List.flatten_nil, List.append_nil, TRef.unary, TRef.reshape, TRef.toBuf, TRef.ofBuf, cast_eq]
    after_results_simp
  rw [h]
  rfl

/-- The bias rows are the biases with a unit axis in the middle. -/
theorem bias_eq (c : Dev nD) : V m c main_call0_v2 = shapeCast S8x1x1024 (argB m c) shapeCasts_S8x1024_S8x1x1024 := by
  unfold V V0
  simp only [hostOps0, List.flatten_cons, List.flatten_nil, List.append_nil, TRef.unary, TRef.reshape, TRef.toBuf, TRef.ofBuf, cast_eq]
  after_results_simp
  rfl

/-- The token matrix at a token and a feature. -/
theorem tokens_apply (c : Dev nD) (r : Fin 2048) (k : Fin 1024) : V m c main_call0_v0 (ix2 r k) = argX m c (ix3 (0 : Fin 1) r k) := by
  rw [tokens_eq]
  refine shapeCast_apply _ _ _ _ ?_
  rw [Shape.rowMajor_val_three, Shape.rowMajor_val_two]
  show (0 * 2048 + r.val) * 1024 + k.val = r.val * 1024 + k.val
  omega

/-- The bias row of an expert at a feature. -/
theorem bias_apply (c : Dev nD) (e : Fin 8) (d : Fin 1024) : V m c main_call0_v2 (ix3 e (0 : Fin 1) d) = argB m c (ix2 e d) := by
  rw [bias_eq]
  refine shapeCast_apply _ _ _ _ ?_
  rw [Shape.rowMajor_val_three, Shape.rowMajor_val_two]
  show e.val * 1024 + d.val = (e.val * 1 + 0) * 1024 + d.val
  omega

/-! ## The output array -/

/-- The grid point of an expert. -/
def point (e : Fin 8) : Fin cfg0.N := ⟨e.val, lt_of_lt_of_eq e.isLt N_0.symm⟩

/-- The output block after grid point `n` holds, at each place, the sum of the contributions up to that point. -/
theorem running_sum (c : Dev nD) (i : S2048x1024.Idx) : ∀ (n : ℕ) (hn : n < cfg0.N),
    (outsAt0 m c n hn).1 i = ∑ k : Fin (n + 1), (part m c ⟨k.val, lt_of_lt_of_le k.isLt hn⟩ i : EReal)
  | 0, hn => by rw [out_zero, Fin.sum_univ_one]; rfl
  | n + 1, hn => by
    rw [out_succ, Fin.sum_univ_castSucc]
    refine (addf_apply _ _ _).trans ?_
    rw [running_sum c i n (Nat.lt_of_succ_lt hn)]
    rfl

/-- Expert `e`'s contribution at token `r` and feature `d`. -/
theorem part_apply (c : Dev nD) (e : Fin 8) {r : Fin 2048} {a b : Fin 8}
    (h : TopTwo (logit (V m c main_call0_v0) (V m c main_arg1) r) a b) (hl : ∀ e, logit (V m c main_call0_v0) (V m c main_arg1) r e ≠ ⊥) (d : Fin 1024) :
    part m c (point e) (ix2 r d)
      = ((∑ k : Fin 1024, argX m c (ix3 (0 : Fin 1) r k) * argW m c (ix3 e k d)) + argB m c (ix2 e d))
        * gate (logit (V m c main_call0_v0) (V m c main_arg1) r) a b e := by
  unfold part
  refine (contribution_apply _ _ e (coord_val (point e)) _ _ _ r d).trans ?_
  rw [weights_apply h hl e]
  refine congrArg₂ (fun p q : EReal => p * q) (congrArg₂ (fun p q : EReal => p + q) (Finset.sum_congr rfl fun k _ => ?_) ?_) rfl
  · exact congrArg₂ (fun p q : EReal => p * q) (tokens_apply m c r k) ((experts_block m c (point e) 0 k d).trans (experts_eq m c _))
  · exact (bias_block m c (point e) 0 0 d).trans (bias_apply m c e d)

/-- The launch's logits are those of the arguments. -/
theorem logit_eq (c : Dev nD) (r : Fin 2048) (e : Fin 8) :
    logit (V m c main_call0_v0) (V m c main_arg1) r e = ∑ k : Fin 1024, argX m c (ix3 (0 : Fin 1) r k) * argR m c (ix2 k e) := by
  unfold logit
  refine Finset.sum_congr rfl fun k _ => congrArg₂ (fun p q : EReal => p * q) (tokens_apply m c r k) ?_
  rw [V_main_arg1 m c]

/-! ## The result buffer -/

/-- The result buffer after the closing reshape is the output array with a leading unit axis. -/
theorem tail_eq (c : Dev nD) : Pipeline.afterTail₀ cfgs (dats m) 0 (V0 m) [hostOps1] c main_v0
    = shapeCast S1x2048x1024 ((dats m 0 c).arrAt 4 cfg0.N) shapeCasts_S2048x1024_S1x2048x1024 := by
  unfold Pipeline.afterTail₀
  simp only [hostOps1, List.flatten_cons, List.flatten_nil, List.append_nil, TRef.reshape, TRef.toBuf, TRef.ofBuf, cast_eq]
  after_results_simp
  have h := Pipeline.withArrays_arr spec0 (by decide) c (V0 m c) (fun w => (dats m 0 c).arrAt w cfg0.N) 4
  exact congrArg (fun A => shapeCast S1x2048x1024 A shapeCasts_S2048x1024_S1x2048x1024) h

/-- A run leaves in the result buffer the output array with a leading unit axis, and the arguments as they were. -/
theorem run : θ_run defs (onTc (τ := τ) (main (F := Ideal))) ⟨m, fun _ => 0, ρ⟩ fun r => ∀ c : Dev nD,
    r.2.mem ((c : Thread nD τ).loc main_v0) = shapeCast S1x2048x1024 ((dats m 0 c).arrAt 4 cfg0.N) shapeCasts_S2048x1024_S1x2048x1024
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).2 main_v0 (Pipeline.mem_restRefs_of main_v0 (by decide) (by decide))).trans (tail_eq m c), h.2 c⟩)
    (θ_run_and (run_main m ρ) (unchanged m ρ))

/-- The output array with a leading unit axis, at a token and a feature: over the experts, the expert's product plus its bias,
    times the token's weight for that expert. -/
theorem result_apply (c : Dev nD) {r : Fin 2048} {a b : Fin 8} {l : Fin 8 → EReal}
    (hlog : ∀ e, l e = ∑ k : Fin 1024, argX m c (ix3 (0 : Fin 1) r k) * argR m c (ix2 k e)) (h : TopTwo l a b) (hl : ∀ e, l e ≠ ⊥) (d : Fin 1024) :
    shapeCast S1x2048x1024 ((dats m 0 c).arrAt 4 cfg0.N) shapeCasts_S2048x1024_S1x2048x1024 (ix3 (0 : Fin 1) r d)
      = ∑ e : Fin 8, ((∑ k : Fin 1024, argX m c (ix3 (0 : Fin 1) r k) * argW m c (ix3 e k d)) + argB m c (ix2 e d)) * gate l a b e := by
  obtain rfl : l = logit (V m c main_call0_v0) (V m c main_arg1) r := funext fun e => (hlog e).trans (logit_eq m c r e).symm
  have hcast (A : S2048x1024.Idx → EReal) : shapeCast S1x2048x1024 A shapeCasts_S2048x1024_S1x2048x1024 (ix3 (0 : Fin 1) r d) = A (ix2 r d) := by
    refine shapeCast_apply _ _ _ _ ?_
    rw [Shape.rowMajor_val_three, Shape.rowMajor_val_two]
    show r.val * 1024 + d.val = (0 * 2048 + r.val) * 1024 + d.val
    omega
  refine (hcast _).trans ?_
  rw [array_eq]
  refine (running_sum m c (ix2 r d) 7 last.isLt).trans ?_
  exact Finset.sum_congr rfl fun e _ => part_apply m c e h hl d

end Cert.KernelIdeal.Result

end
-- ==== Proof.TopK.lean ====
/- A row's two greatest entries through a stable sort: sorting eight positions by descending entry, equal entries staying in
   order, puts first the first greatest entry and second the first greatest among the others. -/
module

public import proofs.«01_k».proof.Proof.Router
public import Idealize.ShloMosaic.Lib.SortPrefix

@[expose] public section

noncomputable section

namespace Cert.Moe

open Idealize.ShloMosaic

/-- "The greater entry first", with nothing said of equal entries. -/
def greater (l : Fin 8 → EReal) (k k' : Fin 8) : Bool := decide (l k' < l k)

/-- "The greater entry first, and of equal entries the earlier". -/
def greaterThenEarlier (l : Fin 8 → EReal) (k k' : Fin 8) : Bool := decide (l k' < l k) || (decide (l k = l k') && decide (k < k'))

/-- On a list of increasing positions the stable sort by the greater entry is the sort that also compares positions: an inserted
    position lies before every position already sorted. -/
theorem stableSort_greater (l : Fin 8 → EReal) : ∀ m : List (Fin 8), m.Pairwise (· < ·) → stableSort (greater l) m = stableSort (greaterThenEarlier l) m
  | [], _ => rfl
  | a :: m, hm => by
    obtain ⟨ha, hm'⟩ := List.pairwise_cons.1 hm
    unfold stableSort
    rw [stableSort_greater l m hm']
    refine insertBefore_congr _ _ a _ fun b hb => ?_
    have hab : a < b := ha b ((perm_stableSort _ m).mem_iff.1 hb)
    simp [greater, greaterThenEarlier, not_lt.2 hab.le]

/-- Comparing entries and then positions is a strict total order. -/
theorem strictTotal_greaterThenEarlier (l : Fin 8 → EReal) : StrictTotalBefore (greaterThenEarlier l) :=
  StrictTotalBefore.of_key_then_position (fun p q : EReal => decide (q < p)) l (fun a => by simp)
    (fun a b c hab hbc => by
      simp only [decide_eq_true_eq] at hab hbc ⊢
      exact hbc.trans hab)
    (fun a b => by
      simp only [decide_eq_true_eq]
      rcases lt_trichotomy a b with h | h | h
      · exact Or.inr (Or.inr h)
      · exact Or.inr (Or.inl h)
      · exact Or.inl h)

/-- A position whose entry is the first greatest among some positions comes after none of them. -/
theorem FirstMax.not_after {P : Fin 8 → Prop} {l : Fin 8 → EReal} {a : Fin 8} (h : FirstMax P l a) (e : Fin 8) (he : P e) :
    greaterThenEarlier l e a = false := by
  obtain ⟨hle, hlt⟩ := h.2 e he
  simp only [greaterThenEarlier, Bool.or_eq_false_iff, Bool.and_eq_false_iff, decide_eq_false_iff_not, not_lt]
  refine ⟨hle, ?_⟩
  by_cases hea : e < a
  · exact Or.inl (hlt hea).ne
  · exact Or.inr (not_lt.1 hea)

/-- The stable sort by the greater entry starts with the two chosen positions. -/
theorem TopTwo.sorted {l : Fin 8 → EReal} {a b : Fin 8} (h : TopTwo l a b) (i : Fin 2) :
    sortedFrom (greater l) (i.castLE (by decide : 2 ≤ 8)) = ![a, b] i := by
  have hrel : sortedFrom (greater l) (i.castLE (by decide : 2 ≤ 8)) = sortedFrom (greaterThenEarlier l) (i.castLE (by decide : 2 ≤ 8)) := by
    unfold sortedFrom sortPositions
    exact List.get_of_eq (stableSort_greater l _ (List.pairwise_lt_finRange 8)) _
  rw [hrel]
  refine (strictTotal_greaterThenEarlier l).sortedFrom_eq_of_prefix (by decide : 2 ≤ 8) ![a, b] ?_ ?_ ?_ i
  · intro p q hpq
    match p, q, hpq with
    | 0, 0, _ => rfl
    | 0, 1, hpq => exact absurd hpq.symm h.second.1
    | 1, 0, hpq => exact absurd hpq h.second.1
    | 1, 1, _ => rfl
  · intro p q hpq
    match p, q, hpq with
    | 0, 0, hpq => exact absurd hpq (lt_irrefl _)
    | 0, 1, _ => exact h.first.not_after b trivial
    | 1, 0, hpq => exact absurd hpq (by decide)
    | 1, 1, hpq => exact absurd hpq (lt_irrefl _)
  · intro p q hq
    match p with
    | 0 => exact h.first.not_after q trivial
    | 1 => exact h.second.not_after q (fun e => hq 0 e.symm)

end Cert.Moe

end
-- ==== Proof.ReferenceRow.lean ====
/- The reference's routing of one token: its logits, the two experts `top_k` chooses, and the softmax of their logits. -/
module

public import proofs.«01_k».proof.Proof.Gen.ReferenceIdeal.Read
public import proofs.«01_k».proof.Proof.TopK
public import Idealize.ShloMosaic.Lib.IdealHost

@[expose] public section

noncomputable section

namespace Cert.ReferenceIdeal.Row

open Cert.ReferenceIdeal Cert.ReferenceIdeal.Gen Cert.ReferenceIdeal.Read Cert.Moe
open Idealize.ShloMosaic Idealize.ShloMosaic.ValueIdx

/-! ## Reductions over the two chosen experts -/

/-- The reduced axis' inserted index. -/
theorem lift_pair (h : S1x2048x2.Reduces [2] S1x2048) (r : Fin 2048) (k : Fin 2) : h.lift (ix2 (0 : Fin 1) r) k = ix3 (0 : Fin 1) r k :=
  funext fun a => Fin.ext (by match a with | ⟨0, _⟩ => rfl | ⟨1, _⟩ => rfl | ⟨2, _⟩ => rfl)

/-- A commutative and associative reduction over a token's two choices combines both with the initial value. -/
theorem reducePair_apply {α : Type} (f : α → α → α) [Std.Commutative f] [Std.Associative f] (x : S1x2048x2.Idx → α) (init : S_.Idx → α) (r : Fin 2048) :
    Host.reduce f x init reducesTo_S1x2048x2_S1x2048_d2 h_S_ (ix2 (0 : Fin 1) r)
      = f (x (ix3 (0 : Fin 1) r (0 : Fin 2))) (f (x (ix3 (0 : Fin 1) r (1 : Fin 2))) (init (Shape.Idx.first h_S_))) := by
  have h : S1x2048x2.Reduces [2] S1x2048 := by decide
  rw [Host.reduce_eq_fold_single f x init _ h]
  have hcomp : (x ∘ h.lift (ix2 (0 : Fin 1) r)) = fun k : Fin 2 => x (ix3 (0 : Fin 1) r k) := funext fun k => congrArg x (lift_pair h r k)
  rw [hcomp]
  show Finset.fold f _ (fun k : Fin 2 => x (ix3 (0 : Fin 1) r k)) ({0, 1} : Finset (Fin 2)) = _
  rw [Finset.fold_insert (by decide), Finset.fold_singleton]

/-- A float sum over a token's two choices is the initial value plus both. -/
theorem sumPair_apply (x : FVec Ideal S1x2048x2 .f32) (init : FVec Ideal S_ .f32) (r : Fin 2048) :
    Host.reduceAdd x init reducesTo_S1x2048x2_S1x2048_d2 h_S_ (ix2 (0 : Fin 1) r)
      = (init (Shape.Idx.first h_S_) : EReal) + (x (ix3 (0 : Fin 1) r (0 : Fin 2)) + x (ix3 (0 : Fin 1) r (1 : Fin 2))) := by
  have h : S1x2048x2.Reduces [2] S1x2048 := by decide
  refine (Ideal.hostReduceAdd_single reducesTo_S1x2048x2_S1x2048_d2 h x _ _).trans ?_
  refine congrArg (fun q : EReal => (init (Shape.Idx.first h_S_) : EReal) + q) ?_
  refine (Fin.sum_univ_two (fun k : Fin 2 => (x (h.lift (ix2 (0 : Fin 1) r) k) : EReal))).trans ?_
  rw [lift_pair, lift_pair]

/-! ## The choice -/

/-- A token's logits. -/
def logit (X : S1x2048x1024.Idx → EReal) (R : S1024x8.Idx → EReal) (r : Fin 2048) (e : Fin 8) : EReal :=
  ∑ k : Fin 1024, X (ix3 (0 : Fin 1) r k) * R (ix2 k e)

variable (X : S1x2048x1024.Idx → EReal) (R : S1024x8.Idx → EReal) {r : Fin 2048} {a b : Fin 8}

/-- The product of the tokens with the router matrix holds the logits. -/
theorem logits_apply (r : Fin 2048) (e : Fin 8) : val_main_v0 (F := Ideal) X R (ix3 (0 : Fin 1) r e) = logit X R r e := by
  rw [val_main_v0_apply]
  refine Finset.sum_congr rfl fun k _ => congrArg₂ (fun p q : EReal => p * q) (congrArg X ?_) (congrArg R ?_)
  · exact funext fun i => Fin.ext (by match i with | ⟨0, _⟩ => rfl | ⟨1, _⟩ => rfl | ⟨2, _⟩ => rfl)
  · exact funext fun i => Fin.ext (by match i with | ⟨0, _⟩ => rfl | ⟨1, _⟩ => rfl)

/-- Keeping the first two places of the last axis. -/
theorem firstTwo_apply {α : Type} (v : S1x2048x8.Idx → α) (r : Fin 2048) (k : Fin 2) :
    extractStridedSlice S1x2048x2 (fun _ => 0) v sliceFits_S1x2048x8_S1x2048x2 (ix3 (0 : Fin 1) r k)
      = v (ix3 (0 : Fin 1) r (k.castLE (by decide : 2 ≤ 8))) :=
  extractStridedSlice_apply (s := S1x2048x8) (t := S1x2048x2) (fun _ => 0) v sliceFits_S1x2048x8_S1x2048x2 _ _ (fun i => by
    match i with
    | ⟨0, _⟩ => rfl
    | ⟨1, _⟩ => exact (Nat.zero_add _).symm
    | ⟨2, _⟩ => exact (Nat.zero_add _).symm)

/-- `top_k` keeps, at place `k`, the entry at the position a stable sort by `gt` puts there. -/
theorem topK_values {α : Type} (gt : α → α → BitVec 1) (v : S1x2048x8.Idx → α) (r : Fin 2048) (k : Fin 2) :
    (Host.topK S1x2048x2 2 gt v sliceFits_S1x2048x8_S1x2048x2).1 (ix3 (0 : Fin 1) r k)
      = v (ix3 (0 : Fin 1) r (sortedFrom (fun p p' : Fin 8 => gt (v (ix3 (0 : Fin 1) r p)) (v (ix3 (0 : Fin 1) r p')) == 1#1)
          (k.castLE (by decide : 2 ≤ 8)))) := by
  have along (q p : Fin 8) : (ix3 (0 : Fin 1) r q : S1x2048x8.Idx).along (2 : Fin 3) p = ix3 (0 : Fin 1) r p :=
    funext fun i => Fin.ext (by match i with | ⟨0, _⟩ => rfl | ⟨1, _⟩ => rfl | ⟨2, _⟩ => rfl)
  refine Eq.trans (b := v ((ix3 (0 : Fin 1) r (k.castLE (by decide : 2 ≤ 8)) : S1x2048x8.Idx).along (2 : Fin 3)
    (sortedFrom (fun p p' : Fin 8 => gt (v ((ix3 (0 : Fin 1) r (k.castLE (by decide : 2 ≤ 8)) : S1x2048x8.Idx).along (2 : Fin 3) p))
      (v ((ix3 (0 : Fin 1) r (k.castLE (by decide : 2 ≤ 8)) : S1x2048x8.Idx).along (2 : Fin 3) p')) == 1#1) (k.castLE (by decide : 2 ≤ 8))))) ?_ ?_
  · exact firstTwo_apply (Host.sort2 S1x2048x8 2 (fun l r => gt l.1 r.1) v (iotaInDim S1x2048x8 32 (2 : Fin 3))).1 r k
  · simp only [along]
    exact congrArg v (along _ _)

/-- `top_k` gives, at place `k`, the position a stable sort by `gt` puts there. -/
theorem topK_indices {α : Type} (gt : α → α → BitVec 1) (v : S1x2048x8.Idx → α) (r : Fin 2048) (k : Fin 2) :
    (Host.topK S1x2048x2 2 gt v sliceFits_S1x2048x8_S1x2048x2).2 (ix3 (0 : Fin 1) r k)
      = BitVec.ofNat 32 (sortedFrom (fun p p' : Fin 8 => gt (v (ix3 (0 : Fin 1) r p)) (v (ix3 (0 : Fin 1) r p')) == 1#1)
          (k.castLE (by decide : 2 ≤ 8))).val := by
  have along (q p : Fin 8) : (ix3 (0 : Fin 1) r q : S1x2048x8.Idx).along (2 : Fin 3) p = ix3 (0 : Fin 1) r p :=
    funext fun i => Fin.ext (by match i with | ⟨0, _⟩ => rfl | ⟨1, _⟩ => rfl | ⟨2, _⟩ => rfl)
  refine Eq.trans (b := BitVec.ofNat 32
    (sortedFrom (fun p p' : Fin 8 => gt (v ((ix3 (0 : Fin 1) r (k.castLE (by decide : 2 ≤ 8)) : S1x2048x8.Idx).along (2 : Fin 3) p))
      (v ((ix3 (0 : Fin 1) r (k.castLE (by decide : 2 ≤ 8)) : S1x2048x8.Idx).along (2 : Fin 3) p')) == 1#1) (k.castLE (by decide : 2 ≤ 8))).val) ?_ ?_
  · exact firstTwo_apply (Host.sort2 S1x2048x8 2 (fun l r => gt l.1 r.1) v (iotaInDim S1x2048x8 32 (2 : Fin 3))).2 r k
  · simp only [along]

/-- The position a stable descending sort of a token's logits puts at place `k < 2` is the `k`-th chosen expert. -/
theorem sorted_position (h : TopTwo (logit X R r) a b) (k : Fin 2) :
    sortedFrom (fun p p' : Fin 8 => FloatOps.cmpfTotal (F := Ideal) (φ := .f32) .gt (val_main_v0 (F := Ideal) X R (ix3 (0 : Fin 1) r p))
        (val_main_v0 (F := Ideal) X R (ix3 (0 : Fin 1) r p')) == 1#1) (k.castLE (by decide : 2 ≤ 8)) = ![a, b] k := by
  refine Eq.trans (congrArg (fun B => sortedFrom B (k.castLE (by decide : 2 ≤ 8))) (funext fun p => funext fun p' => ?_)) (h.sorted k)
  rw [logits_apply, logits_apply]
  show (BitVec.ofBool (decide (logit X R r p' < logit X R r p)) == 1#1) = decide (logit X R r p' < logit X R r p)
  cases decide (logit X R r p' < logit X R r p) <;> rfl

/-- The kept values are the chosen experts' logits. -/
theorem values_apply (h : TopTwo (logit X R r) a b) (k : Fin 2) :
    val_main_values (F := Ideal) X R (ix3 (0 : Fin 1) r k) = logit X R r (![a, b] k) := by
  unfold val_main_values
  rw [topK_values, sorted_position X R h k, logits_apply]

/-- The kept positions are the chosen experts' numbers. -/
theorem indices_apply (h : TopTwo (logit X R r) a b) (k : Fin 2) :
    val_main_indices (F := Ideal) X R (ix3 (0 : Fin 1) r k) = BitVec.ofNat 32 (![a, b] k).val := by
  unfold val_main_indices
  rw [topK_indices, sorted_position X R h k]

/-! ## The softmax of the two chosen logits -/

/-- The greatest chosen logit is the first one's. -/
theorem top_apply (h : TopTwo (logit X R r) a b) : val_main_v3 (F := Ideal) X R (ix2 (0 : Fin 1) r) = logit X R r a := by
  have hv : val_main_v1 (F := Ideal) X R (ix2 (0 : Fin 1) r) = logit X R r a := by
    unfold val_main_v1
    refine (reducePair_apply (α := EReal) max _ _ r).trans ?_
    rw [values_apply X R h 0, values_apply X R h 1]
    have hbot : (val_main_cst (F := Ideal) (Shape.Idx.first h_S_) : EReal) = ⊥ := by
      show Ideal.ofBits .f32 0xFF800000#32 = ⊥
      simp [Ideal.ofBits, Ideal.ieee]
    rw [hbot, max_eq_left (bot_le : (⊥ : EReal) ≤ _)]
    exact max_eq_left (h.first.2 b trivial).1
  have hbot : val_main_v2 (F := Ideal) (ix2 (0 : Fin 1) r) = (⊥ : EReal) := by
    refine (val_main_v2_apply _).trans ?_
    show Ideal.ofBits .f32 0xFF800000#32 = ⊥
    simp [Ideal.ofBits, Ideal.ieee]
  rw [val_main_v3_apply, hv, hbot]
  exact max_eq_right bot_le

/-- The exponential of a chosen logit less the greatest. -/
theorem exp_apply (h : TopTwo (logit X R r) a b) (k : Fin 2) :
    val_main_v7 (F := Ideal) X R (ix3 (0 : Fin 1) r k) = Ideal.exp (logit X R r (![a, b] k) - logit X R r a) := by
  have hidx : idx_main_v4 (idx_main_v5 (ix3 (0 : Fin 1) r k)) = ix2 (0 : Fin 1) r :=
    funext fun i => Fin.ext (by match i with | ⟨0, _⟩ => rfl | ⟨1, _⟩ => rfl)
  rw [val_main_v7_apply, val_main_v6_apply, val_main_v5_apply, val_main_v4_apply, hidx, top_apply X R h, values_apply X R h k]
  exact Ideal.hostUnary_exp_def _

/-- The sum of the two exponentials. -/
theorem total_apply (h : TopTwo (logit X R r) a b) : val_main_v8 (F := Ideal) X R (ix2 (0 : Fin 1) r)
    = 0 + (Ideal.exp (logit X R r a - logit X R r a) + Ideal.exp (logit X R r b - logit X R r a)) := by
  unfold val_main_v8
  refine (sumPair_apply _ _ r).trans ?_
  have hzero : (val_main_cst_1 (F := Ideal) (Shape.Idx.first h_S_) : EReal) = 0 := Ideal.ofBits_zero_f32
  rw [exp_apply X R h 0, exp_apply X R h 1, hzero]
  rfl

/-- The weight of a chosen expert: the first one's share, or what is left of one. -/
theorem softmax_apply (h : TopTwo (logit X R r) a b) {x : Fin 8 → ℝ} (hx : ∀ e, logit X R r e = (x e : EReal)) (k : Fin 2) :
    val_main_v11 (F := Ideal) X R (ix3 (0 : Fin 1) r k) = ![share (logit X R r) a b, 1 - share (logit X R r) a b] k := by
  have hden : val_main_v10 (F := Ideal) X R (ix3 (0 : Fin 1) r k)
      = 0 + (Ideal.exp (logit X R r a - logit X R r a) + Ideal.exp (logit X R r b - logit X R r a)) := by
    have hidx : idx_main_v9 (idx_main_v10 (ix3 (0 : Fin 1) r k)) = ix2 (0 : Fin 1) r :=
      funext fun i => Fin.ext (by match i with | ⟨0, _⟩ => rfl | ⟨1, _⟩ => rfl)
    rw [val_main_v10_apply, val_main_v9_apply, hidx, total_apply X R h]
  rw [val_main_v11_apply, hden, exp_apply X R h k]
  refine (Ideal.hostDivf_def _ _).trans ?_
  match k with
  | 0 => exact softmax_first hx a b
  | 1 => exact softmax_second hx a b

end Cert.ReferenceIdeal.Row

end
-- ==== Proof.ReferenceTerm.lean ====
/- What the reference adds for one expert, stated once for any expert number: the expert's weight for each token times its product
   plus bias, where the token chose the expert, and zero elsewhere. -/
module

public import proofs.«01_k».proof.Proof.ReferenceRow

@[expose] public section

noncomputable section

namespace Cert.ReferenceIdeal.Term

open Cert.ReferenceIdeal Cert.ReferenceIdeal.Gen Cert.ReferenceIdeal.Read Cert.ReferenceIdeal.Row Cert.Moe
open Idealize.ShloMosaic Idealize.ShloMosaic.ValueIdx

section Definitions

variable {F : FTy → Type} [FloatOps F]

/-- Where a token's choice is the expert numbered by the word. -/
def hit (w : BitVec 32) (I : IVec S1x2048x2 32) : IVec S1x2048x2 1 :=
  cmpi .eq I (broadcastInDim S1x2048x2 ![] bcast_S_S1x2048x2 (constantI S_ 32 w))

/-- A token's weight for the expert: the sum of its choices' weights where they are the expert. -/
def weight (w : BitVec 32) (I : IVec S1x2048x2 32) (P : FVec F S1x2048x2 .f32) : FVec F S1x2048 .f32 :=
  Host.reduceAdd (select (hit w I) P (broadcastInDim S1x2048x2 ![] bcast_S_S1x2048x2 (id (constant S_ .f32 0x00000000#32))))
    (constant S_ .f32 0x00000000#32) reducesTo_S1x2048x2_S1x2048_d2 h_S_

/-- Whether a token chose the expert. -/
def chosen (w : BitVec 32) (I : IVec S1x2048x2 32) : IVec S1x2048 1 :=
  Host.reduce IntOp.ori (hit w I) (constantI S_ 1 0#1) reducesTo_S1x2048x2_S1x2048_d2 h_S_

/-- A value for each token, for every feature. -/
def column {α : Type} (v : S1x2048.Idx → α) : S1x2048x1024.Idx → α :=
  broadcastInDim S1x2048x1024 ![0, 1, 2] bcast_S1x2048x1_S1x2048x1024_0_1_2 (broadcastInDim S1x2048x1 ![0, 1] bcast_S1x2048_S1x2048x1_0_1 v)

/-- A value for each feature, for every token. -/
def row {α : Type} (v : S1x1024.Idx → α) : S1x2048x1024.Idx → α :=
  broadcastInDim S1x2048x1024 ![0, 1, 2] bcast_S1x1x1024_S1x2048x1024_0_1_2
    (broadcastInDim S1x1x1024 ![2] bcast_S1024_S1x1x1024_2 (shapeCast S1024 v shapeCasts_S1x1024_S1024))

/-- The tokens through one expert: product with its matrix, plus its bias. -/
def dense (X : FVec F S1x2048x1024 .f32) (M : FVec F S1x1024x1024 .f32) (B : FVec F S1x1024 .f32) : FVec F S1x2048x1024 .f32 :=
  addf (Host.dotGeneral dot_S1x2048x1024_S1024x1024_S1x2048x1024_2_0_01_1_n_n none X (shapeCast S1024x1024 M shapeCasts_S1x1024x1024_S1024x1024)) (row B)

/-- What the reference adds for the expert. -/
def term (w : BitVec 32) (X : FVec F S1x2048x1024 .f32) (I : IVec S1x2048x2 32) (P : FVec F S1x2048x2 .f32) (M : FVec F S1x1024x1024 .f32)
    (B : FVec F S1x1024 .f32) : FVec F S1x2048x1024 .f32 :=
  select (column (chosen w I)) (mulf (column (weight w I P)) (dense X M B))
    (broadcastInDim S1x2048x1024 ![] bcast_S_S1x2048x1024 (id (constant S_ .f32 0x00000000#32)))

end Definitions

/-! ## Reading it at a token and a feature -/

/-- `column` gives at each feature the token's value. -/
theorem column_apply {α : Type} (v : S1x2048.Idx → α) (r : Fin 2048) (d : Fin 1024) : column v (ix3 (0 : Fin 1) r d) = v (ix2 (0 : Fin 1) r) := by
  unfold column
  refine (broadcastInDim_apply _ _ _ _ (ix3 (0 : Fin 1) r (0 : Fin 1)) (fun a => match a with
    | ⟨0, _⟩ => by show 0 = if (1 : Nat) = 1 then 0 else 0; rw [if_pos rfl]
    | ⟨1, _⟩ => by show r.val = if (2048 : Nat) = 1 then 0 else r.val; rw [if_neg (by decide)]
    | ⟨2, _⟩ => by show 0 = if (1 : Nat) = 1 then 0 else d.val; rw [if_pos rfl])).trans ?_
  exact broadcastInDim_apply _ _ _ _ (ix2 (0 : Fin 1) r) (fun a => match a with
    | ⟨0, _⟩ => by show 0 = if (1 : Nat) = 1 then 0 else 0; rw [if_pos rfl]
    | ⟨1, _⟩ => by show r.val = if (2048 : Nat) = 1 then 0 else r.val; rw [if_neg (by decide)])

/-- `row` gives at each token the feature's value. -/
theorem row_apply {α : Type} (v : S1x1024.Idx → α) (r : Fin 2048) (d : Fin 1024) : row v (ix3 (0 : Fin 1) r d) = v (ix2 (0 : Fin 1) d) := by
  unfold row
  refine (broadcastInDim_apply _ _ _ _ (ix3 (0 : Fin 1) (0 : Fin 1) d) (fun a => match a with
    | ⟨0, _⟩ => by show 0 = if (1 : Nat) = 1 then 0 else 0; rw [if_pos rfl]
    | ⟨1, _⟩ => by show 0 = if (1 : Nat) = 1 then 0 else r.val; rw [if_pos rfl]
    | ⟨2, _⟩ => by show d.val = if (1024 : Nat) = 1 then 0 else d.val; rw [if_neg (by decide)])).trans ?_
  refine (broadcastInDim_apply _ _ _ _ (ix1 d) (fun a => match a with
    | ⟨0, _⟩ => by show d.val = if (1024 : Nat) = 1 then 0 else d.val; rw [if_neg (by decide)])).trans ?_
  refine shapeCast_apply _ _ _ _ ?_
  rw [Shape.rowMajor_val_two, Shape.rowMajor_val_one]
  show 0 * 1024 + d.val = d.val
  omega

/-- The product of the tokens with a matrix, at a token and a feature. -/
theorem product_apply (X : FVec Ideal S1x2048x1024 .f32) (M : FVec Ideal S1024x1024 .f32) (r : Fin 2048) (d : Fin 1024) :
    Host.dotGeneral dot_S1x2048x1024_S1024x1024_S1x2048x1024_2_0_01_1_n_n none X M (ix3 (0 : Fin 1) r d)
      = ∑ k : Fin 1024, (X (ix3 (0 : Fin 1) r k) * M (ix2 k d) : EReal) := by
  have hM : val_main_v19 (F := Ideal) (fun i => M (ix2 (i 1) (i 2))) = M := funext fun i => by
    rw [val_main_v19_apply, val_main_v18_apply]
    refine congrArg M (funext fun a => Fin.ext ?_)
    have h0 : (i 0).val < 1024 := (i 0).isLt
    have h1 : (i 1).val < 1024 := (i 1).isLt
    match a with
    | ⟨0, _⟩ => show ((i 0).val * 1024 + (i 1).val) / 1024 % 1024 = (i 0).val; omega
    | ⟨1, _⟩ => show ((i 0).val * 1024 + (i 1).val) % 1024 = (i 1).val; omega
  have h := val_main_v20_apply X (fun i => M (ix2 (i 1) (i 2))) (ix3 (0 : Fin 1) r d)
  unfold val_main_v20 at h
  rw [hM] at h
  refine h.trans (Finset.sum_congr rfl fun k _ => congrArg₂ (fun p q : EReal => p * q) (congrArg X ?_) (congrArg M ?_))
  · exact funext fun i => Fin.ext (by match i with | ⟨0, _⟩ => rfl | ⟨1, _⟩ => rfl | ⟨2, _⟩ => rfl)
  · exact funext fun i => Fin.ext (by match i with | ⟨0, _⟩ => rfl | ⟨1, _⟩ => rfl)

/-- One expert's product plus bias, at a token and a feature. -/
theorem dense_apply (X : FVec Ideal S1x2048x1024 .f32) (M : FVec Ideal S1x1024x1024 .f32) (B : FVec Ideal S1x1024 .f32) (r : Fin 2048) (d : Fin 1024) :
    dense X M B (ix3 (0 : Fin 1) r d)
      = ((∑ k : Fin 1024, X (ix3 (0 : Fin 1) r k) * M (ix3 (0 : Fin 1) k d)) + B (ix2 (0 : Fin 1) d) : EReal) := by
  unfold dense
  refine (addf_apply _ _ _).trans ?_
  rw [product_apply, row_apply]
  refine congrArg (fun q : EReal => q + B (ix2 (0 : Fin 1) d)) (Finset.sum_congr rfl fun k _ => congrArg (fun q : EReal => X (ix3 (0 : Fin 1) r k) * q) ?_)
  refine shapeCast_apply _ _ _ _ ?_
  rw [Shape.rowMajor_val_three, Shape.rowMajor_val_two]
  show (0 * 1024 + k.val) * 1024 + d.val = k.val * 1024 + d.val
  omega

/-! ## The choices -/

/-- Whether a choice is the expert, when the choices are numbers below eight. -/
theorem hit_apply (e c : Fin 8) {I : IVec S1x2048x2 32} {i : S1x2048x2.Idx} (hI : I i = BitVec.ofNat 32 c.val) :
    hit (BitVec.ofNat 32 e.val) I i = BitVec.ofBool (decide (e = c)) := by
  show IntOp.cmpi .eq (I i) (BitVec.ofNat 32 e.val) = _
  rw [hI]
  clear hI
  revert e c
  decide

variable {I : IVec S1x2048x2 32} {P : FVec Ideal S1x2048x2 .f32} {r : Fin 2048} {a b : Fin 8}

/-- A token's weight for an expert. -/
theorem weight_apply (hI : ∀ k : Fin 2, I (ix3 (0 : Fin 1) r k) = BitVec.ofNat 32 (![a, b] k).val) (e : Fin 8) :
    weight (BitVec.ofNat 32 e.val) I P (ix2 (0 : Fin 1) r)
      = ((if e = a then P (ix3 (0 : Fin 1) r (0 : Fin 2)) else 0) + (if e = b then P (ix3 (0 : Fin 1) r (1 : Fin 2)) else 0) : EReal) := by
  unfold weight
  refine (sumPair_apply _ _ r).trans ?_
  have hzero : (constant (F := Ideal) S_ .f32 0x00000000#32 (Shape.Idx.first h_S_) : EReal) = 0 := Ideal.ofBits_zero_f32
  have hsel (k : Fin 2) (c : Fin 8) (hc : I (ix3 (0 : Fin 1) r k) = BitVec.ofNat 32 c.val) :
      (select (hit (BitVec.ofNat 32 e.val) I) P (broadcastInDim S1x2048x2 ![] bcast_S_S1x2048x2 (id (constant (F := Ideal) S_ .f32 0x00000000#32)))
        (ix3 (0 : Fin 1) r k) : EReal) = if e = c then P (ix3 (0 : Fin 1) r k) else 0 := by
    show Scalar.select (hit (BitVec.ofNat 32 e.val) I (ix3 (0 : Fin 1) r k)) (P (ix3 (0 : Fin 1) r k)) (Ideal.ofBits .f32 0x00000000#32 : EReal) = _
    rw [hit_apply e c hc, Ideal.ofBits_zero_f32]
    by_cases h : e = c
    · rw [if_pos h, decide_eq_true h]; rfl
    · rw [if_neg h, decide_eq_false h]; rfl
  rw [hzero, zero_add, hsel 0 a (hI 0), hsel 1 b (hI 1)]

/-- A token chose an expert when one of its two choices is it. -/
theorem chosen_apply (hI : ∀ k : Fin 2, I (ix3 (0 : Fin 1) r k) = BitVec.ofNat 32 (![a, b] k).val) (e : Fin 8) :
    chosen (BitVec.ofNat 32 e.val) I (ix2 (0 : Fin 1) r) = BitVec.ofBool (decide (e = a ∨ e = b)) := by
  unfold chosen
  refine (reducePair_apply IntOp.ori _ _ r).trans ?_
  rw [hit_apply e a (hI 0), hit_apply e b (hI 1)]
  rw [Bool.decide_or]
  show IntOp.ori _ (IntOp.ori _ 0#1) = _
  generalize decide (e = a) = p, decide (e = b) = q
  revert p q
  decide

/-- What the reference adds for an expert at a token and a feature, the token's two choices and their weights known: the weight times
    the product plus bias. A token that did not choose the expert has weight zero for it. -/
theorem term_apply (X : FVec Ideal S1x2048x1024 .f32) (M : FVec Ideal S1x1024x1024 .f32) (B : FVec Ideal S1x1024 .f32)
    (hI : ∀ k : Fin 2, I (ix3 (0 : Fin 1) r k) = BitVec.ofNat 32 (![a, b] k).val) {p : EReal}
    (hP : ∀ k : Fin 2, P (ix3 (0 : Fin 1) r k) = ![p, 1 - p] k) (e : Fin 8) (d : Fin 1024) :
    term (BitVec.ofNat 32 e.val) X I P M B (ix3 (0 : Fin 1) r d)
      = (((if e = a then p else 0) + (if e = b then 1 - p else 0))
          * ((∑ k : Fin 1024, X (ix3 (0 : Fin 1) r k) * M (ix3 (0 : Fin 1) k d)) + B (ix2 (0 : Fin 1) d)) : EReal) := by
  have hw : weight (BitVec.ofNat 32 e.val) I P (ix2 (0 : Fin 1) r) = ((if e = a then p else 0) + (if e = b then 1 - p else 0) : EReal) := by
    rw [weight_apply hI e, hP 0, hP 1]
    rfl
  have hprod : mulf (column (weight (BitVec.ofNat 32 e.val) I P)) (dense X M B) (ix3 (0 : Fin 1) r d)
      = (((if e = a then p else 0) + (if e = b then 1 - p else 0))
          * ((∑ k : Fin 1024, X (ix3 (0 : Fin 1) r k) * M (ix3 (0 : Fin 1) k d)) + B (ix2 (0 : Fin 1) d)) : EReal) := by
    refine (mulf_apply _ _ _).trans ?_
    rw [column_apply, hw, dense_apply]
  show Scalar.select (column (chosen (BitVec.ofNat 32 e.val) I) (ix3 (0 : Fin 1) r d))
    (mulf (column (weight (BitVec.ofNat 32 e.val) I P)) (dense X M B) (ix3 (0 : Fin 1) r d)) (Ideal.ofBits .f32 0x00000000#32 : EReal) = _
  rw [hprod, column_apply, chosen_apply hI e, Ideal.ofBits_zero_f32]
  by_cases h : e = a ∨ e = b
  · rw [decide_eq_true h]; rfl
  · obtain ⟨ha, hb⟩ := not_or.1 h
    rw [decide_eq_false h, if_neg ha, if_neg hb, add_zero, zero_mul]
    rfl

end Cert.ReferenceIdeal.Term

end
-- ==== Proof.ReferenceResult.lean ====
/- The reference's result, entry by entry: over the experts, the token's weight for the expert times its product plus bias. -/
module

public import proofs.«01_k».proof.Proof.ReferenceTerm
public import Idealize.ShloMosaic.Lib.Claim

@[expose] public section

noncomputable section

namespace Cert.ReferenceIdeal.Result

open Cert.ReferenceIdeal Cert.ReferenceIdeal.Gen Cert.ReferenceIdeal.Read Cert.ReferenceIdeal.Row Cert.ReferenceIdeal.Term Cert.Moe
open Idealize.ShloMosaic Idealize.ShloMosaic.TcCoe Idealize.SL.Sem Idealize.ShloMosaic.ValueIdx Idealize.ShloMosaic.StableHlo

/-- An expert's matrix lies within the experts' matrices. -/
theorem slicesW (e : Fin 8) : S8x1024x1024.Slices ![e.val, 0, 0] S1x1024x1024 := by
  revert e
  decide

/-- An expert's bias lies within the experts' biases. -/
theorem slicesB (e : Fin 8) : S8x1024.Slices ![e.val, 0] S1x1024 := by
  revert e
  decide

section Stages

variable {F : FTy → Type} [FloatOps F]
variable (X : FVec F S1x2048x1024 .f32) (R : FVec F S1024x8 .f32) (W : FVec F S8x1024x1024 .f32) (B : FVec F S8x1024 .f32)

/-- What the reference adds for expert `e`. -/
def added (e : Fin 8) : FVec F S1x2048x1024 .f32 :=
  term (BitVec.ofNat 32 e.val) X (val_main_indices X R) (val_main_v11 X R) (extractStridedSlice S1x1024x1024 ![e.val, 0, 0] W (slicesW e))
    (extractStridedSlice S1x1024 ![e.val, 0] B (slicesB e))

/-- The printed stage of each expert is what the one definition says of its number. -/
theorem stage_eq :
    val_main_v30 X R W B = added X R W B 0 ∧ val_main_v49 X R W B = added X R W B 1 ∧ val_main_v68 X R W B = added X R W B 2
      ∧ val_main_v87 X R W B = added X R W B 3 ∧ val_main_v106 X R W B = added X R W B 4 ∧ val_main_v125 X R W B = added X R W B 5
      ∧ val_main_v144 X R W B = added X R W B 6 ∧ val_main_v163 X R W B = added X R W B 7 :=
  ⟨rfl, rfl, rfl, rfl, rfl, rfl, rfl, rfl⟩

end Stages

variable (X : S1x2048x1024.Idx → EReal) (R : S1024x8.Idx → EReal) (W : S8x1024x1024.Idx → EReal) (B : S8x1024.Idx → EReal)

/-- What the reference adds for expert `e` at a token and a feature. -/
theorem added_apply {r : Fin 2048} {a b : Fin 8} (h : TopTwo (logit X R r) a b) {x : Fin 8 → ℝ} (hx : ∀ e, logit X R r e = (x e : EReal))
    (e : Fin 8) (d : Fin 1024) :
    added (F := Ideal) X R W B e (ix3 (0 : Fin 1) r d)
      = gate (logit X R r) a b e * ((∑ k : Fin 1024, X (ix3 (0 : Fin 1) r k) * W (ix3 e k d)) + B (ix2 e d)) := by
  unfold added
  refine (term_apply X _ _ (indices_apply X R h) (softmax_apply X R h hx) e d).trans ?_
  refine congrArg (fun q : EReal => gate (logit X R r) a b e * q) (congrArg₂ (fun p q : EReal => p + q)
    (Finset.sum_congr rfl fun k _ => congrArg (fun q : EReal => X (ix3 (0 : Fin 1) r k) * q) ?_) ?_)
  · exact extractStridedSlice_apply (s := S8x1024x1024) (t := S1x1024x1024) ![e.val, 0, 0] W (slicesW e) _ _ (fun i => by
      match i with
      | ⟨0, _⟩ => rfl
      | ⟨1, _⟩ => exact (Nat.zero_add _).symm
      | ⟨2, _⟩ => exact (Nat.zero_add _).symm)
  · exact extractStridedSlice_apply (s := S8x1024) (t := S1x1024) ![e.val, 0] B (slicesB e) _ _ (fun i => by
      match i with
      | ⟨0, _⟩ => rfl
      | ⟨1, _⟩ => exact (Nat.zero_add _).symm)

/-- The result is the sum of what is added for the eight experts. -/
theorem result_sum (i : S1x2048x1024.Idx) : (val_main_v164 (F := Ideal) X R W B i : EReal) = ∑ e : Fin 8, added (F := Ideal) X R W B e i := by
  obtain ⟨h0, h1, h2, h3, h4, h5, h6, h7⟩ := stage_eq (F := Ideal) X R W B
  have hzero : (val_main_v12 (F := Ideal) i : EReal) = 0 := (val_main_v12_apply i).trans Ideal.ofBits_zero_f32
  rw [val_main_v164_apply, val_main_v145_apply, val_main_v126_apply, val_main_v107_apply, val_main_v88_apply, val_main_v69_apply,
    val_main_v50_apply, val_main_v31_apply, h0, h1, h2, h3, h4, h5, h6, h7, hzero, Fin.sum_univ_eight]
  refine congrArg (fun q : EReal => q + added (F := Ideal) X R W B 1 i + added (F := Ideal) X R W B 2 i + added (F := Ideal) X R W B 3 i
    + added (F := Ideal) X R W B 4 i + added (F := Ideal) X R W B 5 i + added (F := Ideal) X R W B 6 i + added (F := Ideal) X R W B 7 i) ?_
  exact zero_add _

/-- The result at a token and a feature. -/
theorem result_apply {r : Fin 2048} {a b : Fin 8} (h : TopTwo (logit X R r) a b) {x : Fin 8 → ℝ} (hx : ∀ e, logit X R r e = (x e : EReal))
    (d : Fin 1024) :
    val_main_v164 (F := Ideal) X R W B (ix3 (0 : Fin 1) r d)
      = ∑ e : Fin 8, gate (logit X R r) a b e * ((∑ k : Fin 1024, X (ix3 (0 : Fin 1) r k) * W (ix3 e k d)) + B (ix2 e d)) :=
  (result_sum X R W B _).trans (Finset.sum_congr rfl fun e _ => added_apply X R W B h hx e d)

end Cert.ReferenceIdeal.Result

end
-- ==== Proof.Finite.lean ====
/- What the precondition says: every token entry and every router entry is a real number, and so every logit is. -/
module

public import proofs.«01_k».proof.Proof.Gen.Pre_finite_router
public import Idealize.ShloMosaic.Lib.ReduceAll
public import Idealize.ShloMosaic.Lib.ValueIdx
public import Idealize.ShloMosaic.PureOps.Ideal.Laws

@[expose] public section

noncomputable section

namespace Cert.Pre_finite_router.Finite

open Cert.Pre_finite_router Idealize.ShloMosaic Idealize.ShloMosaic.ValueIdx

/-- An extended real whose absolute value compares below infinity's word is a real number. -/
theorem real_of_abs_lt (x : EReal) (h : Ideal.cmp .olt (max x (-x)) (Ideal.ofBits .f32 0x7F800000#32) = 1#1) : ∃ y : ℝ, x = (y : EReal) := by
  have htop : Ideal.ofBits .f32 0x7F800000#32 = (⊤ : EReal) := by simp [Ideal.ofBits, Ideal.ieee]
  rw [htop] at h
  have hlt : max x (-x) < (⊤ : EReal) := by
    by_contra hn
    have h0 : Ideal.cmp .olt (max x (-x)) (⊤ : EReal) = 0#1 := by
      unfold Ideal.cmp
      rw [decide_eq_false hn]
      rfl
    rw [h0] at h
    exact absurd h (by decide)
  have hx : x ≠ ⊤ := fun e => (lt_irrefl (⊤ : EReal)) (lt_of_le_of_lt (e ▸ le_max_left x (-x)) hlt)
  have hx' : x ≠ ⊥ := fun e => by
    rw [e] at hlt
    simp at hlt
  exact ⟨x.toReal, (EReal.coe_toReal hx hx').symm⟩

/-- A scalar has one place. -/
instance : Subsingleton S_.Idx := ⟨fun i j => funext fun a => a.elim0⟩

variable [Facts] (X : S1x2048x1024.Idx → EReal) (R : S1024x8.Idx → EReal) (W : S8x1024x1024.Idx → EReal) (B : S8x1024.Idx → EReal)

/-- Under the precondition every token entry and every router entry is a real number. -/
theorem real_of_pre (h : fn (F := Ideal) X R W B = fun _ => 1#1) : (∀ i, ∃ y : ℝ, X i = (y : EReal)) ∧ ∀ i, ∃ y : ℝ, R i = (y : EReal) := by
  obtain ⟨hX, hR⟩ := IntOp.andi_eq_one.1 (congrFun h ix0)
  exact ⟨fun i => real_of_abs_lt _ (Host.reduce_andi_all _ _ _ _ _ hX i), fun i => real_of_abs_lt _ (Host.reduce_andi_all _ _ _ _ _ hR i)⟩

/-- A finite sum of products of real numbers is a real number. -/
theorem real_sum {n : ℕ} {p q : Fin n → EReal} (hp : ∀ k, ∃ y : ℝ, p k = (y : EReal)) (hq : ∀ k, ∃ y : ℝ, q k = (y : EReal)) :
    ∃ y : ℝ, ∑ k, p k * q k = (y : EReal) := by
  choose u hu using hp
  choose v hv using hq
  have hsum (s : Finset (Fin n)) : ∑ k ∈ s, p k * q k = ((∑ k ∈ s, u k * v k : ℝ) : EReal) := by
    classical
    induction s using Finset.induction_on with
    | empty => rfl
    | insert k s hk ih => rw [Finset.sum_insert hk, Finset.sum_insert hk, ih, hu, hv, EReal.coe_add, EReal.coe_mul]
  exact ⟨_, hsum Finset.univ⟩

end Cert.Pre_finite_router.Finite

end
-- ==== Proof.lean ====
/- The claim's parts: every run of the kernel and of the reference ends with its arguments unchanged and every semaphore at zero,
   and, the tokens and the router matrix being finite, the kernel's result over the extended reals is the reference's. -/
module

public import proofs.«01_k».proof.Defs
public import proofs.«01_k».proof.Proof.Gen.Kernel
public import proofs.«01_k».proof.Proof.Gen.Kernel.Frame
public import proofs.«01_k».proof.Proof.KernelResult
public import proofs.«01_k».proof.Proof.ReferenceResult
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem Idealize.ShloMosaic.ValueIdx Cert.Moe

/-! ## The reference's run -/

section Reference

open Cert.ReferenceIdeal

/-- Every run of the reference ends with its arguments unchanged and every semaphore at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun r h => ⟨fun c => (h c).2, sem_eq_zero_of_no_sems (by decide) r.2⟩) (Value.run (F := Ideal) m ρ)

/-- Every run of the reference leaves in its result the value of its last operation, and its arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v164)
          = Read.val_main_v164 (F := Ideal) (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (Read.val_main_v164_eq _), (h c).2⟩) (Value.run (F := Ideal) m ρ)

end Reference

/-! ## The equation -/

/-- Two arrays over the tokens and features are equal when they are at every token and feature. -/
theorem eq_of_entries {f g : (⟨3, ![1, 2048, 1024]⟩ : Shape).Idx → EReal}
    (h : ∀ (r : Fin 2048) (d : Fin 1024), f (ix3 (0 : Fin 1) r d) = g (ix3 (0 : Fin 1) r d)) : f = g := funext fun i => by
  have hi : i = ix3 (0 : Fin 1) (i 1) (i 2) := funext fun a => Fin.ext (by
    match a with
    | ⟨0, _⟩ => exact Nat.lt_one_iff.1 (i 0).isLt
    | ⟨1, _⟩ => rfl
    | ⟨2, _⟩ => rfl)
  rw [hi]
  exact h (i 1) (i 2)

/-- The kernel's result is the reference's on equal arguments, when the tokens and the router matrix are finite. -/
theorem result_eq (m : (ℓ : Loc Cert.KernelIdeal.nD Cert.KernelIdeal.τ Cert.KernelIdeal.sig) → Buf (Elt Ideal) ℓ) (c : Dev Cert.KernelIdeal.nD)
    (h : Cert.Pre_finite_router.fn (F := Ideal) (Cert.KernelIdeal.Result.argX m c) (Cert.KernelIdeal.Result.argR m c)
      (Cert.KernelIdeal.Result.argW m c) (Cert.KernelIdeal.Result.argB m c) = fun _ => 1#1) :
    shapeCast Cert.KernelIdeal.S1x2048x1024 ((Cert.KernelIdeal.Gen.dats m 0 c).arrAt 4 Cert.KernelIdeal.cfg0.N)
        Cert.KernelIdeal.Gen.shapeCasts_S2048x1024_S1x2048x1024
      = Cert.ReferenceIdeal.Read.val_main_v164 (F := Ideal) (Cert.KernelIdeal.Result.argX m c) (Cert.KernelIdeal.Result.argR m c)
          (Cert.KernelIdeal.Result.argW m c) (Cert.KernelIdeal.Result.argB m c) := by
  obtain ⟨hX, hR⟩ := Cert.Pre_finite_router.Finite.real_of_pre _ _ _ _ h
  refine eq_of_entries fun r d => ?_
  obtain ⟨a, b, htop⟩ := exists_topTwo (Cert.ReferenceIdeal.Row.logit (Cert.KernelIdeal.Result.argX m c) (Cert.KernelIdeal.Result.argR m c) r)
  have hreal (e : Fin 8) : ∃ x : ℝ, Cert.ReferenceIdeal.Row.logit (Cert.KernelIdeal.Result.argX m c) (Cert.KernelIdeal.Result.argR m c) r e = (x : EReal) :=
    Cert.Pre_finite_router.Finite.real_sum (fun k => hX (ix3 (0 : Fin 1) r k)) (fun k => hR (ix2 k e))
  choose x hx using hreal
  refine (Cert.KernelIdeal.Result.result_apply m c (fun _ => rfl) htop (fun e he => EReal.coe_ne_bot (x e) ((hx e).symm.trans he)) d).trans ?_
  refine Eq.trans ?_ (Cert.ReferenceIdeal.Result.result_apply _ _ _ _ htop hx d).symm
  exact Finset.sum_congr (M := EReal) rfl fun e _ => EReal.mul_comm _ _

/-! ## The claim -/

/-- The whole claim. -/
theorem claim : Cert.Claim := ⟨Cert.Kernel.Gen.facts, Cert.KernelIdeal.Gen.facts, Cert.ReferenceIdeal.Gen.facts, Cert.Pre_finite_router.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  fun m ρ m' ρ' hpre hargs =>
    ⟨fun c => shapeCast Cert.KernelIdeal.S1x2048x1024 ((Cert.KernelIdeal.Gen.dats m 0 c).arrAt 4 Cert.KernelIdeal.cfg0.N)
        Cert.KernelIdeal.Gen.shapeCasts_S2048x1024_S1x2048x1024,
      Cert.KernelIdeal.Result.run m ρ,
      (θ_run Cert.ReferenceIdeal.defs _ _).mono (fun _ h c => ⟨(h c).1.trans (by
        obtain ⟨h0, h1, h2, h3⟩ := hargs c
        rw [h0, h1, h2, h3]
        exact (result_eq m c (hpre c)).symm), (h c).2⟩) (reference_run m' ρ')⟩⟩

end Cert.Proof

end
